-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S1 : Shape := ⟨1, ![1]⟩
abbrev S4096x8192 : Shape := ⟨2, ![4096, 8192]⟩
abbrev S4x512x2048 : Shape := ⟨3, ![4, 512, 2048]⟩
abbrev S4x2x512x2048 : Shape := ⟨4, ![4, 2, 512, 2048]⟩
abbrev S4x2 : Shape := ⟨2, ![4, 2]⟩
abbrev S4 : Shape := ⟨1, ![4]⟩
abbrev S_ : Shape := ⟨0, ![]⟩
abbrev S512x512 : Shape := ⟨2, ![512, 512]⟩
abbrev S512x2048 : Shape := ⟨2, ![512, 2048]⟩
abbrev S1x512x2048 : Shape := ⟨3, ![1, 512, 2048]⟩
abbrev S1x1 : Shape := ⟨2, ![1, 1]⟩
abbrev S1x1x512x2048 : Shape := ⟨4, ![1, 1, 512, 2048]⟩

abbrev nBuf : Space → Nat
  | .hbm => 5
  | .vmem => 5
  | .smem => 2
  | _ => 0

abbrev bufTy : (tb : Table) → Fin (tcTables nBuf tb) → BufTy
  | .hbm, ⟨0, _⟩ => ⟨S4096x512, .fp8e5m2⟩
  | .hbm, ⟨1, _⟩ => ⟨S512x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x512, .fp8e5m2⟩
  | .local _ .vmem, ⟨1, _⟩ => ⟨S512x8192, .fp8e5m2⟩
  | .local _ .vmem, ⟨2, _⟩ => ⟨S4x512x2048, .bf16⟩
  | .local _ .vmem, ⟨3, _⟩ => ⟨S4x2x512x2048, .bf16⟩
  | .local _ .vmem, ⟨4, _⟩ => ⟨S4x512x2048, .f32⟩
  | .local _ .smem, ⟨0, _⟩ => ⟨S1, .f32⟩
  | .local _ .smem, ⟨1, _⟩ => ⟨S1, .f32⟩
  | _, _ => ⟨S4096x512, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 5 24 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v16 : BitVec 32 := Scalar.muli v2 c512_i32
  let v17 : Index := Scalar.indexCast v16
  let c0_11 : Index := 0#32
  ![v17.toNat, 0]
def k0_dev3 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_66 : BitVec 32 := 1#32
  let v80 : BitVec 32 := Scalar.muli v4 c1_i32_66
  let v81 : BitVec 32 := Scalar.addi c0_i32_67 v80
  v81.toNat
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_79 : BitVec 32 := 1#32
  let v90 : BitVec 32 := Scalar.muli v4 c1_i32_79
  let v91 : BitVec 32 := Scalar.addi c0_i32_80 v90
  v91.toNat
def k0_dev5 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_92 : BitVec 32 := 1#32
  let v100 : BitVec 32 := Scalar.muli v7 c1_i32_92
  let v101 : BitVec 32 := Scalar.addi c0_i32_93 v100
  v101.toNat
def k0_dev6 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_104 : BitVec 32 := 1#32
  let v110 : BitVec 32 := Scalar.muli v7 c1_i32_104
  let v111 : BitVec 32 := Scalar.addi c0_i32_105 v110
  v111.toNat
def k0_off2 (d0 : Dev nD) (c1_i32_110 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v120 : BitVec 32 := Scalar.subi v2 c1_i32_110
  let c32_i32 : BitVec 32 := 32#32
  let v121 : BitVec 32 := Scalar.addi v120 c32_i32
  let c8_i32_111 : BitVec 32 := 8#32
  let v122 : BitVec 32 := Scalar.remsi v121 c8_i32_111
  let c512_i32_112 : BitVec 32 := 512#32
  let v123 : BitVec 32 := Scalar.muli v122 c512_i32_112
  let v124 : Index := Scalar.indexCast v123
  let c0_113 : Index := 0#32
  ![v124.toNat, 0]
def k0_off2_at (r : Fin 14) : BitVec 32 :=
  if r.val < 7 then
    if r.val < 3 then
      if r.val < 1 then
        1#32
      else
        if r.val < 2 then
          4294967295#32
        else
          2#32
    else
      if r.val < 5 then
        if r.val < 4 then
          4294967294#32
        else
          3#32
      else
        if r.val < 6 then
          4294967293#32
        else
          4#32
  else
    if r.val < 10 then
      if r.val < 8 then
        4294967292#32
      else
        if r.val < 9 then
          5#32
        else
          4294967291#32
    else
      if r.val < 12 then
        if r.val < 11 then
          6#32
        else
          4294967290#32
      else
        if r.val < 13 then
          7#32
        else
          4294967289#32
def k0_dev7 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_189 : BitVec 32 := 1#32
  let v198 : BitVec 32 := Scalar.muli v7 c1_i32_189
  let v199 : BitVec 32 := Scalar.addi c0_i32_190 v198
  v199.toNat
def k0_dev8 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_198 : BitVec 32 := 1#32
  let v200 : BitVec 32 := Scalar.muli v4 c1_i32_198
  let v201 : BitVec 32 := Scalar.addi c0_i32_199 v200
  v201.toNat
def k0_dev9 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_252 : BitVec 32 := 1#32
  let v249 : BitVec 32 := Scalar.muli v7 c1_i32_252
  let v250 : BitVec 32 := Scalar.addi c0_i32_253 v249
  v250.toNat
def k0_dev10 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_261 : BitVec 32 := 1#32
  let v251 : BitVec 32 := Scalar.muli v4 c1_i32_261
  let v252 : BitVec 32 := Scalar.addi c0_i32_262 v251
  v252.toNat
def k0_dev11 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_315 : BitVec 32 := 1#32
  let v300 : BitVec 32 := Scalar.muli v4 c1_i32_315
  let v301 : BitVec 32 := Scalar.addi c0_i32_316 v300
  v301.toNat
def k0_dev12 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_324 : BitVec 32 := 1#32
  let v302 : BitVec 32 := Scalar.muli v7 c1_i32_324
  let v303 : BitVec 32 := Scalar.addi c0_i32_325 v302
  v303.toNat
def k0_dev13 (d0 : Dev nD) : Nat :=
  let c0_i32_378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_377 : BitVec 32 := 1#32
  let v351 : BitVec 32 := Scalar.muli v4 c1_i32_377
  let v352 : BitVec 32 := Scalar.addi c0_i32_378 v351
  v352.toNat
def k0_dev14 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_386 : BitVec 32 := 1#32
  let v353 : BitVec 32 := Scalar.muli v7 c1_i32_386
  let v354 : BitVec 32 := Scalar.addi c0_i32_387 v353
  v354.toNat
def k0_dev15 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_440 : BitVec 32 := 1#32
  let v402 : BitVec 32 := Scalar.muli v7 c1_i32_440
  let v403 : BitVec 32 := Scalar.addi c0_i32_441 v402
  v403.toNat
def k0_dev16 (d0 : Dev nD) : Nat :=
  let c0_i32_453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_452 : BitVec 32 := 1#32
  let v406 : BitVec 32 := Scalar.muli v4 c1_i32_452
  let v407 : BitVec 32 := Scalar.addi c0_i32_453 v406
  v407.toNat
def k0_dev17 (d0 : Dev nD) : Nat :=
  let c0_i32_507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_506 : BitVec 32 := 1#32
  let v455 : BitVec 32 := Scalar.muli v7 c1_i32_506
  let v456 : BitVec 32 := Scalar.addi c0_i32_507 v455
  v456.toNat
def k0_dev18 (d0 : Dev nD) : Nat :=
  let c0_i32_519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_518 : BitVec 32 := 1#32
  let v459 : BitVec 32 := Scalar.muli v4 c1_i32_518
  let v460 : BitVec 32 := Scalar.addi c0_i32_519 v459
  v460.toNat
def k0_dev19 (d0 : Dev nD) : Nat :=
  let c0_i32_573 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_572 : BitVec 32 := 1#32
  let v508 : BitVec 32 := Scalar.muli v4 c1_i32_572
  let v509 : BitVec 32 := Scalar.addi c0_i32_573 v508
  v509.toNat
def k0_dev20 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_584 : BitVec 32 := 1#32
  let v512 : BitVec 32 := Scalar.muli v7 c1_i32_584
  let v513 : BitVec 32 := Scalar.addi c0_i32_585 v512
  v513.toNat
def k0_dev21 (d0 : Dev nD) : Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_637 : BitVec 32 := 1#32
  let v561 : BitVec 32 := Scalar.muli v4 c1_i32_637
  let v562 : BitVec 32 := Scalar.addi c0_i32_638 v561
  v562.toNat
def k0_dev22 (d0 : Dev nD) : Nat :=
  let c0_i32_650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_649 : BitVec 32 := 1#32
  let v565 : BitVec 32 := Scalar.muli v7 c1_i32_649
  let v566 : BitVec 32 := Scalar.addi c0_i32_650 v565
  v566.toNat
def k0_dev23 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_703 : BitVec 32 := 1#32
  let v614 : BitVec 32 := Scalar.muli v7 c1_i32_703
  let v615 : BitVec 32 := Scalar.addi c0_i32_704 v614
  v615.toNat
def k0_dev24 (d0 : Dev nD) : Nat :=
  let c0_i32_716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_715 : BitVec 32 := 1#32
  let v618 : BitVec 32 := Scalar.muli v4 c1_i32_715
  let v619 : BitVec 32 := Scalar.addi c0_i32_716 v618
  v619.toNat
def k0_dev25 (d0 : Dev nD) : Nat :=
  let c0_i32_769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_768 : BitVec 32 := 1#32
  let v667 : BitVec 32 := Scalar.muli v7 c1_i32_768
  let v668 : BitVec 32 := Scalar.addi c0_i32_769 v667
  v668.toNat
def k0_dev26 (d0 : Dev nD) : Nat :=
  let c0_i32_781 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_780 : BitVec 32 := 1#32
  let v671 : BitVec 32 := Scalar.muli v4 c1_i32_780
  let v672 : BitVec 32 := Scalar.addi c0_i32_781 v671
  v672.toNat
def k0_dev27 (d0 : Dev nD) : Nat :=
  let c0_i32_835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_834 : BitVec 32 := 1#32
  let v720 : BitVec 32 := Scalar.muli v4 c1_i32_834
  let v721 : BitVec 32 := Scalar.addi c0_i32_835 v720
  v721.toNat
def k0_dev28 (d0 : Dev nD) : Nat :=
  let c0_i32_847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_846 : BitVec 32 := 1#32
  let v724 : BitVec 32 := Scalar.muli v7 c1_i32_846
  let v725 : BitVec 32 := Scalar.addi c0_i32_847 v724
  v725.toNat
def k0_dev29 (d0 : Dev nD) : Nat :=
  let c0_i32_900 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_899 : BitVec 32 := 1#32
  let v773 : BitVec 32 := Scalar.muli v4 c1_i32_899
  let v774 : BitVec 32 := Scalar.addi c0_i32_900 v773
  v774.toNat
def k0_dev30 (d0 : Dev nD) : Nat :=
  let c0_i32_912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_911 : BitVec 32 := 1#32
  let v777 : BitVec 32 := Scalar.muli v7 c1_i32_911
  let v778 : BitVec 32 := Scalar.addi c0_i32_912 v777
  v778.toNat
def k0_dev31 (d0 : Dev nD) : Nat :=
  let c0_i32_966 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_965 : BitVec 32 := 1#32
  let v826 : BitVec 32 := Scalar.muli v7 c1_i32_965
  let v827 : BitVec 32 := Scalar.addi c0_i32_966 v826
  v827.toNat
def k0_dev32 (d0 : Dev nD) : Nat :=
  let c0_i32_978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_977 : BitVec 32 := 1#32
  let v830 : BitVec 32 := Scalar.muli v4 c1_i32_977
  let v831 : BitVec 32 := Scalar.addi c0_i32_978 v830
  v831.toNat
def k0_dev33 (d0 : Dev nD) : Nat :=
  let c0_i32_1031 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1030 : BitVec 32 := 1#32
  let v879 : BitVec 32 := Scalar.muli v7 c1_i32_1030
  let v880 : BitVec 32 := Scalar.addi c0_i32_1031 v879
  v880.toNat
def k0_dev34 (d0 : Dev nD) : Nat :=
  let c0_i32_1043 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1042 : BitVec 32 := 1#32
  let v883 : BitVec 32 := Scalar.muli v4 c1_i32_1042
  let v884 : BitVec 32 := Scalar.addi c0_i32_1043 v883
  v884.toNat
def k0_dev35 (d0 : Dev nD) : Nat :=
  let c0_i32_1097 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1096 : BitVec 32 := 1#32
  let v932 : BitVec 32 := Scalar.muli v4 c1_i32_1096
  let v933 : BitVec 32 := Scalar.addi c0_i32_1097 v932
  v933.toNat
def k0_dev36 (d0 : Dev nD) : Nat :=
  let c0_i32_1109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1108 : BitVec 32 := 1#32
  let v936 : BitVec 32 := Scalar.muli v7 c1_i32_1108
  let v937 : BitVec 32 := Scalar.addi c0_i32_1109 v936
  v937.toNat
def k0_dev37 (d0 : Dev nD) : Nat :=
  let c0_i32_1162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1161 : BitVec 32 := 1#32
  let v985 : BitVec 32 := Scalar.muli v4 c1_i32_1161
  let v986 : BitVec 32 := Scalar.addi c0_i32_1162 v985
  v986.toNat
def k0_dev38 (d0 : Dev nD) : Nat :=
  let c0_i32_1174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1173 : BitVec 32 := 1#32
  let v989 : BitVec 32 := Scalar.muli v7 c1_i32_1173
  let v990 : BitVec 32 := Scalar.addi c0_i32_1174 v989
  v990.toNat
def k0_dev39 (d0 : Dev nD) : Nat :=
  let c0_i32_1228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1227 : BitVec 32 := 1#32
  let v1038 : BitVec 32 := Scalar.muli v7 c1_i32_1227
  let v1039 : BitVec 32 := Scalar.addi c0_i32_1228 v1038
  v1039.toNat
def k0_dev40 (d0 : Dev nD) : Nat :=
  let c0_i32_1240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1239 : BitVec 32 := 1#32
  let v1042 : BitVec 32 := Scalar.muli v4 c1_i32_1239
  let v1043 : BitVec 32 := Scalar.addi c0_i32_1240 v1042
  v1043.toNat
def k0_dev41 (d0 : Dev nD) : Nat :=
  let c0_i32_1293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1292 : BitVec 32 := 1#32
  let v1091 : BitVec 32 := Scalar.muli v7 c1_i32_1292
  let v1092 : BitVec 32 := Scalar.addi c0_i32_1293 v1091
  v1092.toNat
def k0_dev42 (d0 : Dev nD) : Nat :=
  let c0_i32_1305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1304 : BitVec 32 := 1#32
  let v1095 : BitVec 32 := Scalar.muli v4 c1_i32_1304
  let v1096 : BitVec 32 := Scalar.addi c0_i32_1305 v1095
  v1096.toNat
def k0_dev43 (d0 : Dev nD) : Nat :=
  let c0_i32_1359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1358 : BitVec 32 := 1#32
  let v1144 : BitVec 32 := Scalar.muli v4 c1_i32_1358
  let v1145 : BitVec 32 := Scalar.addi c0_i32_1359 v1144
  v1145.toNat
def k0_dev44 (d0 : Dev nD) : Nat :=
  let c0_i32_1371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1370 : BitVec 32 := 1#32
  let v1148 : BitVec 32 := Scalar.muli v7 c1_i32_1370
  let v1149 : BitVec 32 := Scalar.addi c0_i32_1371 v1148
  v1149.toNat
def k0_dev45 (d0 : Dev nD) : Nat :=
  let c0_i32_1424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1423 : BitVec 32 := 1#32
  let v1197 : BitVec 32 := Scalar.muli v4 c1_i32_1423
  let v1198 : BitVec 32 := Scalar.addi c0_i32_1424 v1197
  v1198.toNat
def k0_dev46 (d0 : Dev nD) : Nat :=
  let c0_i32_1436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1435 : BitVec 32 := 1#32
  let v1201 : BitVec 32 := Scalar.muli v7 c1_i32_1435
  let v1202 : BitVec 32 := Scalar.addi c0_i32_1436 v1201
  v1202.toNat
def k0_dev47 (d0 : Dev nD) : Nat :=
  let c0_i32_1490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1489 : BitVec 32 := 1#32
  let v1250 : BitVec 32 := Scalar.muli v7 c1_i32_1489
  let v1251 : BitVec 32 := Scalar.addi c0_i32_1490 v1250
  v1251.toNat
def k0_dev48 (d0 : Dev nD) : Nat :=
  let c0_i32_1502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1501 : BitVec 32 := 1#32
  let v1254 : BitVec 32 := Scalar.muli v4 c1_i32_1501
  let v1255 : BitVec 32 := Scalar.addi c0_i32_1502 v1254
  v1255.toNat
def k0_dev49 (d0 : Dev nD) : Nat :=
  let c0_i32_1555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1554 : BitVec 32 := 1#32
  let v1303 : BitVec 32 := Scalar.muli v7 c1_i32_1554
  let v1304 : BitVec 32 := Scalar.addi c0_i32_1555 v1303
  v1304.toNat
def k0_dev50 (d0 : Dev nD) : Nat :=
  let c0_i32_1567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1566 : BitVec 32 := 1#32
  let v1307 : BitVec 32 := Scalar.muli v4 c1_i32_1566
  let v1308 : BitVec 32 := Scalar.addi c0_i32_1567 v1307
  v1308.toNat
def k0_dev51 (d0 : Dev nD) : Nat :=
  let c0_i32_1621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1620 : BitVec 32 := 1#32
  let v1356 : BitVec 32 := Scalar.muli v4 c1_i32_1620
  let v1357 : BitVec 32 := Scalar.addi c0_i32_1621 v1356
  v1357.toNat
def k0_dev52 (d0 : Dev nD) : Nat :=
  let c0_i32_1633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1632 : BitVec 32 := 1#32
  let v1360 : BitVec 32 := Scalar.muli v7 c1_i32_1632
  let v1361 : BitVec 32 := Scalar.addi c0_i32_1633 v1360
  v1361.toNat
def k0_dev53 (d0 : Dev nD) : Nat :=
  let c0_i32_1686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1685 : BitVec 32 := 1#32
  let v1409 : BitVec 32 := Scalar.muli v4 c1_i32_1685
  let v1410 : BitVec 32 := Scalar.addi c0_i32_1686 v1409
  v1410.toNat
def k0_dev54 (d0 : Dev nD) : Nat :=
  let c0_i32_1698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1697 : BitVec 32 := 1#32
  let v1413 : BitVec 32 := Scalar.muli v7 c1_i32_1697
  let v1414 : BitVec 32 := Scalar.addi c0_i32_1698 v1413
  v1414.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1749 : BitVec 32 := 1#32
  let v1461 : BitVec 32 := Scalar.addi v2 c1_i32_1749
  let c32_i32_1750 : BitVec 32 := 32#32
  let v1462 : BitVec 32 := Scalar.addi v1461 c32_i32_1750
  let c8_i32_1751 : BitVec 32 := 8#32
  let v1463 : BitVec 32 := Scalar.remsi v1462 c8_i32_1751
  let c512_i32_1752 : BitVec 32 := 512#32
  let v1464 : BitVec 32 := Scalar.muli v1463 c512_i32_1752
  let c0_i32_1755 : BitVec 32 := 0#32
  ![v1464.toNat, 0]
def k0_dev55 (d0 : Dev nD) : Nat :=
  let c0_i32_1764 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1763 : BitVec 32 := 1#32
  let v1476 : BitVec 32 := Scalar.muli v7 c1_i32_1763
  let v1477 : BitVec 32 := Scalar.addi c0_i32_1764 v1476
  v1477.toNat
def k0_dev56 (d0 : Dev nD) : Nat :=
  let c0_i32_1776 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1775 : BitVec 32 := 1#32
  let v1480 : BitVec 32 := Scalar.muli v4 c1_i32_1775
  let v1481 : BitVec 32 := Scalar.addi c0_i32_1776 v1480
  v1481.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1816 : BitVec 32 := 1#32
  let v1515 : BitVec 32 := Scalar.addi v2 c1_i32_1816
  let c32_i32_1817 : BitVec 32 := 32#32
  let v1516 : BitVec 32 := Scalar.addi v1515 c32_i32_1817
  let c8_i32_1818 : BitVec 32 := 8#32
  let v1517 : BitVec 32 := Scalar.remsi v1516 c8_i32_1818
  let c512_i32_1819 : BitVec 32 := 512#32
  let v1518 : BitVec 32 := Scalar.muli v1517 c512_i32_1819
  let c2048_i32 : BitVec 32 := 2048#32
  ![v1518.toNat, 2048]
def k0_dev57 (d0 : Dev nD) : Nat :=
  let c0_i32_1830 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1829 : BitVec 32 := 1#32
  let v1530 : BitVec 32 := Scalar.muli v7 c1_i32_1829
  let v1531 : BitVec 32 := Scalar.addi c0_i32_1830 v1530
  v1531.toNat
def k0_dev58 (d0 : Dev nD) : Nat :=
  let c0_i32_1842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1841 : BitVec 32 := 1#32
  let v1534 : BitVec 32 := Scalar.muli v4 c1_i32_1841
  let v1535 : BitVec 32 := Scalar.addi c0_i32_1842 v1534
  v1535.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m1_i32_1882 : BitVec 32 := 4294967295#32
  let v1569 : BitVec 32 := Scalar.addi v2 c_m1_i32_1882
  let c32_i32_1883 : BitVec 32 := 32#32
  let v1570 : BitVec 32 := Scalar.addi v1569 c32_i32_1883
  let c8_i32_1884 : BitVec 32 := 8#32
  let v1571 : BitVec 32 := Scalar.remsi v1570 c8_i32_1884
  let c512_i32_1885 : BitVec 32 := 512#32
  let v1572 : BitVec 32 := Scalar.muli v1571 c512_i32_1885
  let c4096_i32 : BitVec 32 := 4096#32
  ![v1572.toNat, 4096]
def k0_dev59 (d0 : Dev nD) : Nat :=
  let c0_i32_1896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1895 : BitVec 32 := 1#32
  let v1584 : BitVec 32 := Scalar.muli v4 c1_i32_1895
  let v1585 : BitVec 32 := Scalar.addi c0_i32_1896 v1584
  v1585.toNat
def k0_dev60 (d0 : Dev nD) : Nat :=
  let c0_i32_1908 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1907 : BitVec 32 := 1#32
  let v1588 : BitVec 32 := Scalar.muli v7 c1_i32_1907
  let v1589 : BitVec 32 := Scalar.addi c0_i32_1908 v1588
  v1589.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m1_i32_1948 : BitVec 32 := 4294967295#32
  let v1623 : BitVec 32 := Scalar.addi v2 c_m1_i32_1948
  let c32_i32_1949 : BitVec 32 := 32#32
  let v1624 : BitVec 32 := Scalar.addi v1623 c32_i32_1949
  let c8_i32_1950 : BitVec 32 := 8#32
  let v1625 : BitVec 32 := Scalar.remsi v1624 c8_i32_1950
  let c512_i32_1951 : BitVec 32 := 512#32
  let v1626 : BitVec 32 := Scalar.muli v1625 c512_i32_1951
  let c6144_i32 : BitVec 32 := 6144#32
  ![v1626.toNat, 6144]
def k0_dev61 (d0 : Dev nD) : Nat :=
  let c0_i32_1962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1961 : BitVec 32 := 1#32
  let v1638 : BitVec 32 := Scalar.muli v4 c1_i32_1961
  let v1639 : BitVec 32 := Scalar.addi c0_i32_1962 v1638
  v1639.toNat
def k0_dev62 (d0 : Dev nD) : Nat :=
  let c0_i32_1974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1973 : BitVec 32 := 1#32
  let v1642 : BitVec 32 := Scalar.muli v7 c1_i32_1973
  let v1643 : BitVec 32 := Scalar.addi c0_i32_1974 v1642
  v1643.toNat
def k0_dev63 (d0 : Dev nD) : Nat :=
  let c0_i32_2019 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2018 : BitVec 32 := 1#32
  let v1671 : BitVec 32 := Scalar.muli v4 c1_i32_2018
  let v1672 : BitVec 32 := Scalar.addi c0_i32_2019 v1671
  v1672.toNat
def k0_dev64 (d0 : Dev nD) : Nat :=
  let c0_i32_2064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2063 : BitVec 32 := 1#32
  let v1700 : BitVec 32 := Scalar.muli v4 c1_i32_2063
  let v1701 : BitVec 32 := Scalar.addi c0_i32_2064 v1700
  v1701.toNat
def k0_dev65 (d0 : Dev nD) : Nat :=
  let c0_i32_2109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2108 : BitVec 32 := 1#32
  let v1729 : BitVec 32 := Scalar.muli v7 c1_i32_2108
  let v1730 : BitVec 32 := Scalar.addi c0_i32_2109 v1729
  v1730.toNat
def k0_dev66 (d0 : Dev nD) : Nat :=
  let c0_i32_2154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2153 : BitVec 32 := 1#32
  let v1758 : BitVec 32 := Scalar.muli v7 c1_i32_2153
  let v1759 : BitVec 32 := Scalar.addi c0_i32_2154 v1758
  v1759.toNat
def k0_off7 (d0 : Dev nD) (c0_i32_1992 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1660 : BitVec 32 := Scalar.subi v2 c0_i32_1992
  let c32_i32_1993 : BitVec 32 := 32#32
  let v1661 : BitVec 32 := Scalar.addi v1660 c32_i32_1993
  let c8_i32_1994 : BitVec 32 := 8#32
  let v1662 : BitVec 32 := Scalar.remsi v1661 c8_i32_1994
  let c512_i32_2171 : BitVec 32 := 512#32
  let v1779 : BitVec 32 := Scalar.muli v1662 c512_i32_2171
  let c0_i32_2174 : BitVec 32 := 0#32
  ![v1779.toNat, 0]
def k0_off8 (d0 : Dev nD) (c0_i32_2037 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1689 : BitVec 32 := Scalar.subi v2 c0_i32_2037
  let c32_i32_2038 : BitVec 32 := 32#32
  let v1690 : BitVec 32 := Scalar.addi v1689 c32_i32_2038
  let c8_i32_2039 : BitVec 32 := 8#32
  let v1691 : BitVec 32 := Scalar.remsi v1690 c8_i32_2039
  let c512_i32_2189 : BitVec 32 := 512#32
  let v1796 : BitVec 32 := Scalar.muli v1691 c512_i32_2189
  let c2048_i32_2192 : BitVec 32 := 2048#32
  ![v1796.toNat, 2048]
def k0_off9 (d0 : Dev nD) (c0_i32_2082 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1718 : BitVec 32 := Scalar.subi v2 c0_i32_2082
  let c32_i32_2083 : BitVec 32 := 32#32
  let v1719 : BitVec 32 := Scalar.addi v1718 c32_i32_2083
  let c8_i32_2084 : BitVec 32 := 8#32
  let v1720 : BitVec 32 := Scalar.remsi v1719 c8_i32_2084
  let c512_i32_2207 : BitVec 32 := 512#32
  let v1813 : BitVec 32 := Scalar.muli v1720 c512_i32_2207
  let c4096_i32_2210 : BitVec 32 := 4096#32
  ![v1813.toNat, 4096]
def k0_off9_at (r : Fin 7) : BitVec 32 :=
  if r.val < 3 then
    if r.val < 1 then
      0#32
    else
      if r.val < 2 then
        4294967295#32
      else
        4294967294#32
  else
    if r.val < 5 then
      if r.val < 4 then
        4294967293#32
      else
        4294967292#32
    else
      if r.val < 6 then
        4294967291#32
      else
        4294967290#32
def k0_off10 (d0 : Dev nD) (c0_i32_2127 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1747 : BitVec 32 := Scalar.subi v2 c0_i32_2127
  let c32_i32_2128 : BitVec 32 := 32#32
  let v1748 : BitVec 32 := Scalar.addi v1747 c32_i32_2128
  let c8_i32_2129 : BitVec 32 := 8#32
  let v1749 : BitVec 32 := Scalar.remsi v1748 c8_i32_2129
  let c512_i32_2225 : BitVec 32 := 512#32
  let v1830 : BitVec 32 := Scalar.muli v1749 c512_i32_2225
  let c6144_i32_2228 : BitVec 32 := 6144#32
  ![v1830.toNat, 6144]
def k0_off10_at (r : Fin 7) : BitVec 32 :=
  if r.val < 3 then
    if r.val < 1 then
      0#32
    else
      if r.val < 2 then
        4294967295#32
      else
        4294967294#32
  else
    if r.val < 5 then
      if r.val < 4 then
        4294967293#32
      else
        4294967292#32
    else
      if r.val < 6 then
        4294967291#32
      else
        4294967290#32
def k0_dev67 (d0 : Dev nD) : Nat :=
  let c0_i32_2264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2263 : BitVec 32 := 1#32
  let v1855 : BitVec 32 := Scalar.muli v7 c1_i32_2263
  let v1856 : BitVec 32 := Scalar.addi c0_i32_2264 v1855
  v1856.toNat
def k0_dev68 (d0 : Dev nD) : Nat :=
  let c0_i32_2277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2276 : BitVec 32 := 1#32
  let v1859 : BitVec 32 := Scalar.muli v4 c1_i32_2276
  let v1860 : BitVec 32 := Scalar.addi c0_i32_2277 v1859
  v1860.toNat
def k0_dev69 (d0 : Dev nD) : Nat :=
  let c0_i32_2315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2314 : BitVec 32 := 1#32
  let v1888 : BitVec 32 := Scalar.muli v7 c1_i32_2314
  let v1889 : BitVec 32 := Scalar.addi c0_i32_2315 v1888
  v1889.toNat
def k0_dev70 (d0 : Dev nD) : Nat :=
  let c0_i32_2328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2327 : BitVec 32 := 1#32
  let v1892 : BitVec 32 := Scalar.muli v4 c1_i32_2327
  let v1893 : BitVec 32 := Scalar.addi c0_i32_2328 v1892
  v1893.toNat
def k0_dev71 (d0 : Dev nD) : Nat :=
  let c0_i32_2366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2365 : BitVec 32 := 1#32
  let v1921 : BitVec 32 := Scalar.muli v4 c1_i32_2365
  let v1922 : BitVec 32 := Scalar.addi c0_i32_2366 v1921
  v1922.toNat
def k0_dev72 (d0 : Dev nD) : Nat :=
  let c0_i32_2379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2378 : BitVec 32 := 1#32
  let v1925 : BitVec 32 := Scalar.muli v7 c1_i32_2378
  let v1926 : BitVec 32 := Scalar.addi c0_i32_2379 v1925
  v1926.toNat
def k0_dev73 (d0 : Dev nD) : Nat :=
  let c0_i32_2417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2416 : BitVec 32 := 1#32
  let v1954 : BitVec 32 := Scalar.muli v4 c1_i32_2416
  let v1955 : BitVec 32 := Scalar.addi c0_i32_2417 v1954
  v1955.toNat
def k0_dev74 (d0 : Dev nD) : Nat :=
  let c0_i32_2430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2429 : BitVec 32 := 1#32
  let v1958 : BitVec 32 := Scalar.muli v7 c1_i32_2429
  let v1959 : BitVec 32 := Scalar.addi c0_i32_2430 v1958
  v1959.toNat
def k0_dev75 (d0 : Dev nD) : Nat :=
  let c0_i32_2540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2539 : BitVec 32 := 1#32
  let v2055 : BitVec 32 := Scalar.muli v7 c1_i32_2539
  let v2056 : BitVec 32 := Scalar.addi c0_i32_2540 v2055
  v2056.toNat
def k0_dev76 (d0 : Dev nD) : Nat :=
  let c0_i32_2553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2552 : BitVec 32 := 1#32
  let v2059 : BitVec 32 := Scalar.muli v4 c1_i32_2552
  let v2060 : BitVec 32 := Scalar.addi c0_i32_2553 v2059
  v2060.toNat
def k0_dev77 (d0 : Dev nD) : Nat :=
  let c0_i32_2591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2590 : BitVec 32 := 1#32
  let v2088 : BitVec 32 := Scalar.muli v7 c1_i32_2590
  let v2089 : BitVec 32 := Scalar.addi c0_i32_2591 v2088
  v2089.toNat
def k0_dev78 (d0 : Dev nD) : Nat :=
  let c0_i32_2604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2603 : BitVec 32 := 1#32
  let v2092 : BitVec 32 := Scalar.muli v4 c1_i32_2603
  let v2093 : BitVec 32 := Scalar.addi c0_i32_2604 v2092
  v2093.toNat
def k0_dev79 (d0 : Dev nD) : Nat :=
  let c0_i32_2642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2641 : BitVec 32 := 1#32
  let v2121 : BitVec 32 := Scalar.muli v4 c1_i32_2641
  let v2122 : BitVec 32 := Scalar.addi c0_i32_2642 v2121
  v2122.toNat
def k0_dev80 (d0 : Dev nD) : Nat :=
  let c0_i32_2655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2654 : BitVec 32 := 1#32
  let v2125 : BitVec 32 := Scalar.muli v7 c1_i32_2654
  let v2126 : BitVec 32 := Scalar.addi c0_i32_2655 v2125
  v2126.toNat
def k0_dev81 (d0 : Dev nD) : Nat :=
  let c0_i32_2693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2692 : BitVec 32 := 1#32
  let v2154 : BitVec 32 := Scalar.muli v4 c1_i32_2692
  let v2155 : BitVec 32 := Scalar.addi c0_i32_2693 v2154
  v2155.toNat
def k0_dev82 (d0 : Dev nD) : Nat :=
  let c0_i32_2706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2705 : BitVec 32 := 1#32
  let v2158 : BitVec 32 := Scalar.muli v7 c1_i32_2705
  let v2159 : BitVec 32 := Scalar.addi c0_i32_2706 v2158
  v2159.toNat
def k0_dev83 (d0 : Dev nD) : Nat :=
  let c0_i32_2816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2815 : BitVec 32 := 1#32
  let v2255 : BitVec 32 := Scalar.muli v7 c1_i32_2815
  let v2256 : BitVec 32 := Scalar.addi c0_i32_2816 v2255
  v2256.toNat
def k0_dev84 (d0 : Dev nD) : Nat :=
  let c0_i32_2829 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2828 : BitVec 32 := 1#32
  let v2259 : BitVec 32 := Scalar.muli v4 c1_i32_2828
  let v2260 : BitVec 32 := Scalar.addi c0_i32_2829 v2259
  v2260.toNat
def k0_dev85 (d0 : Dev nD) : Nat :=
  let c0_i32_2867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2866 : BitVec 32 := 1#32
  let v2288 : BitVec 32 := Scalar.muli v7 c1_i32_2866
  let v2289 : BitVec 32 := Scalar.addi c0_i32_2867 v2288
  v2289.toNat
def k0_dev86 (d0 : Dev nD) : Nat :=
  let c0_i32_2880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2879 : BitVec 32 := 1#32
  let v2292 : BitVec 32 := Scalar.muli v4 c1_i32_2879
  let v2293 : BitVec 32 := Scalar.addi c0_i32_2880 v2292
  v2293.toNat
def k0_dev87 (d0 : Dev nD) : Nat :=
  let c0_i32_2918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2917 : BitVec 32 := 1#32
  let v2321 : BitVec 32 := Scalar.muli v4 c1_i32_2917
  let v2322 : BitVec 32 := Scalar.addi c0_i32_2918 v2321
  v2322.toNat
def k0_dev88 (d0 : Dev nD) : Nat :=
  let c0_i32_2931 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2930 : BitVec 32 := 1#32
  let v2325 : BitVec 32 := Scalar.muli v7 c1_i32_2930
  let v2326 : BitVec 32 := Scalar.addi c0_i32_2931 v2325
  v2326.toNat
def k0_dev89 (d0 : Dev nD) : Nat :=
  let c0_i32_2969 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_2968 : BitVec 32 := 1#32
  let v2354 : BitVec 32 := Scalar.muli v4 c1_i32_2968
  let v2355 : BitVec 32 := Scalar.addi c0_i32_2969 v2354
  v2355.toNat
def k0_dev90 (d0 : Dev nD) : Nat :=
  let c0_i32_2982 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_2981 : BitVec 32 := 1#32
  let v2358 : BitVec 32 := Scalar.muli v7 c1_i32_2981
  let v2359 : BitVec 32 := Scalar.addi c0_i32_2982 v2358
  v2359.toNat
def k0_dev91 (d0 : Dev nD) : Nat :=
  let c0_i32_3092 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3091 : BitVec 32 := 1#32
  let v2455 : BitVec 32 := Scalar.muli v7 c1_i32_3091
  let v2456 : BitVec 32 := Scalar.addi c0_i32_3092 v2455
  v2456.toNat
def k0_dev92 (d0 : Dev nD) : Nat :=
  let c0_i32_3105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3104 : BitVec 32 := 1#32
  let v2459 : BitVec 32 := Scalar.muli v4 c1_i32_3104
  let v2460 : BitVec 32 := Scalar.addi c0_i32_3105 v2459
  v2460.toNat
def k0_dev93 (d0 : Dev nD) : Nat :=
  let c0_i32_3143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3142 : BitVec 32 := 1#32
  let v2488 : BitVec 32 := Scalar.muli v7 c1_i32_3142
  let v2489 : BitVec 32 := Scalar.addi c0_i32_3143 v2488
  v2489.toNat
def k0_dev94 (d0 : Dev nD) : Nat :=
  let c0_i32_3156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3155 : BitVec 32 := 1#32
  let v2492 : BitVec 32 := Scalar.muli v4 c1_i32_3155
  let v2493 : BitVec 32 := Scalar.addi c0_i32_3156 v2492
  v2493.toNat
def k0_dev95 (d0 : Dev nD) : Nat :=
  let c0_i32_3194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3193 : BitVec 32 := 1#32
  let v2521 : BitVec 32 := Scalar.muli v4 c1_i32_3193
  let v2522 : BitVec 32 := Scalar.addi c0_i32_3194 v2521
  v2522.toNat
def k0_dev96 (d0 : Dev nD) : Nat :=
  let c0_i32_3207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3206 : BitVec 32 := 1#32
  let v2525 : BitVec 32 := Scalar.muli v7 c1_i32_3206
  let v2526 : BitVec 32 := Scalar.addi c0_i32_3207 v2525
  v2526.toNat
def k0_dev97 (d0 : Dev nD) : Nat :=
  let c0_i32_3245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3244 : BitVec 32 := 1#32
  let v2554 : BitVec 32 := Scalar.muli v4 c1_i32_3244
  let v2555 : BitVec 32 := Scalar.addi c0_i32_3245 v2554
  v2555.toNat
def k0_dev98 (d0 : Dev nD) : Nat :=
  let c0_i32_3258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3257 : BitVec 32 := 1#32
  let v2558 : BitVec 32 := Scalar.muli v7 c1_i32_3257
  let v2559 : BitVec 32 := Scalar.addi c0_i32_3258 v2558
  v2559.toNat
def k0_dev99 (d0 : Dev nD) : Nat :=
  let c0_i32_3368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3367 : BitVec 32 := 1#32
  let v2655 : BitVec 32 := Scalar.muli v7 c1_i32_3367
  let v2656 : BitVec 32 := Scalar.addi c0_i32_3368 v2655
  v2656.toNat
def k0_dev100 (d0 : Dev nD) : Nat :=
  let c0_i32_3381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3380 : BitVec 32 := 1#32
  let v2659 : BitVec 32 := Scalar.muli v4 c1_i32_3380
  let v2660 : BitVec 32 := Scalar.addi c0_i32_3381 v2659
  v2660.toNat
def k0_dev101 (d0 : Dev nD) : Nat :=
  let c0_i32_3419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3418 : BitVec 32 := 1#32
  let v2688 : BitVec 32 := Scalar.muli v7 c1_i32_3418
  let v2689 : BitVec 32 := Scalar.addi c0_i32_3419 v2688
  v2689.toNat
def k0_dev102 (d0 : Dev nD) : Nat :=
  let c0_i32_3432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3431 : BitVec 32 := 1#32
  let v2692 : BitVec 32 := Scalar.muli v4 c1_i32_3431
  let v2693 : BitVec 32 := Scalar.addi c0_i32_3432 v2692
  v2693.toNat
def k0_dev103 (d0 : Dev nD) : Nat :=
  let c0_i32_3470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3469 : BitVec 32 := 1#32
  let v2721 : BitVec 32 := Scalar.muli v4 c1_i32_3469
  let v2722 : BitVec 32 := Scalar.addi c0_i32_3470 v2721
  v2722.toNat
def k0_dev104 (d0 : Dev nD) : Nat :=
  let c0_i32_3483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3482 : BitVec 32 := 1#32
  let v2725 : BitVec 32 := Scalar.muli v7 c1_i32_3482
  let v2726 : BitVec 32 := Scalar.addi c0_i32_3483 v2725
  v2726.toNat
def k0_dev105 (d0 : Dev nD) : Nat :=
  let c0_i32_3521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_3520 : BitVec 32 := 1#32
  let v2754 : BitVec 32 := Scalar.muli v4 c1_i32_3520
  let v2755 : BitVec 32 := Scalar.addi c0_i32_3521 v2754
  v2755.toNat
def k0_dev106 (d0 : Dev nD) : Nat :=
  let c0_i32_3534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_3533 : BitVec 32 := 1#32
  let v2758 : BitVec 32 := Scalar.muli v7 c1_i32_3533
  let v2759 : BitVec 32 := Scalar.addi c0_i32_3534 v2758
  v2759.toNat
abbrev stage0_0 : Fin 1 → Memref sig .tc .vmem S4096x512 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Kernel.BodyEq.lean ====
/- The printed body is the run of the operations' list. -/
module

public import proofs.«01_k».proof.Proof.Kernel.Ops
public import proofs.«01_k».proof.Proof.Gen.Kernel.Launch

@[expose] public section

noncomputable section

namespace Cert.Kernel.Body

open Idealize.ShloMosaic Idealize.SL.Sem Cert.Kernel Cert.Kernel.Gen

variable {F : FTy → Type} [FloatOps F]

set_option maxRecDepth 65536 in
/-- The printed body is this one. -/
theorem body_eq : bodyAt0 (F := F) t0_0 = whole (F := F) := by
  chain_rfl

end Cert.Kernel.Body
-- ==== Proof.KernelIdeal.Ops.lean ====
/- The kernel's body as a list of operations: eight kinds of step on a ring, each written once for a symbolic
   ring and step number, and the printed body as the run of the list that the schedule of rings and steps gives. -/
module

public import proofs.«01_k».proof.Proof.Gen.KernelIdeal.Points
public import proofs.«01_k».proof.Proof.Gen.KernelIdeal.Skeleton

@[expose] public section

noncomputable section

namespace Cert.KernelIdeal.Body

open Idealize.ShloMosaic Idealize.SL.Sem Cert.KernelIdeal Cert.KernelIdeal.Gen

variable {F : FTy → Type} [FloatOps F]

/-! ## The buffers and semaphores by ring and slot -/

abbrev xM : Memref sig .tc .vmem S4096x512 .fp8e5m2 := win0_0.stage 0
abbrev wM : Memref sig .tc .vmem S512x8192 .fp8e5m2 := win0_1.stage 0
abbrev oM : Memref sig .tc .hbm S4096x8192 .f32 := Memref.whole main_v1
abbrev sM : Memref sig .tc .vmem S4x512x2048 .bf16 := Memref.whole cc0_scratch0
abbrev rM : Memref sig .tc .vmem S4x2x512x2048 .bf16 := Memref.whole cc0_scratch1
abbrev aM : Memref sig .tc .vmem S4x512x2048 .f32 := Memref.whole cc0_scratch2

/-- The ring's page of the send buffers and of the accumulators. -/
theorem inb3 : ∀ (r : Fin 4) (a : Fin 3), (![r.val, 0, 0] : Fin 3 → Nat) a + S1x512x2048.size a ≤ S4x512x2048.size a := by decide
/-- The ring's slot of the receive buffers. -/
theorem inb4 : ∀ (r : Fin 4) (j : Fin 2) (a : Fin 4), (![r.val, j.val, 0, 0] : Fin 4 → Nat) a + S1x1x512x2048.size a ≤ S4x2x512x2048.size a := by decide
theorem words3 : ∀ r : Fin 4, (Rect.unit (s := S4x512x2048) ![r.val, 0, 0] S1x512x2048.size (inb3 r)).WholeWords (EltTy.packing .bf16) := by decide
theorem words4 : ∀ (r : Fin 4) (j : Fin 2), (Rect.unit (s := S4x2x512x2048) ![r.val, j.val, 0, 0] S1x1x512x2048.size (inb4 r j)).WholeWords (EltTy.packing .bf16) := by decide
theorem packed3 : ∀ r : Fin 4, (Rect.unit (s := S4x512x2048) ![r.val, 0, 0] S1x512x2048.size (inb3 r)).PackedRows (EltTy.packing .bf16) := by decide
theorem inbW : ∀ (r : Fin 4) (a : Fin 2), (![0, 2048 * r.val] : Fin 2 → Nat) a + S512x2048.size a ≤ S512x8192.size a := by decide

/-- The slot that step `h`'s message lands in. -/
abbrev par (h : ℕ) : Fin 2 := ⟨h % 2, Nat.mod_lt _ (by decide)⟩

abbrev rect3 (r : Fin 4) : Rect S4x512x2048 := Rect.unit ![r.val, 0, 0] S1x512x2048.size (inb3 r)
abbrev rect4 (r : Fin 4) (j : Fin 2) : Rect S4x2x512x2048 := Rect.unit ![r.val, j.val, 0, 0] S1x1x512x2048.size (inb4 r j)

abbrev sbufM (r : Fin 4) : Memref sig .tc .vmem S512x2048 .bf16 := (sM.slice (rect3 r) (fun _ => rfl)).squeeze S512x2048 squeezes_S1x512x2048_S512x2048
abbrev accM (r : Fin 4) : Memref sig .tc .vmem S512x2048 .f32 := (aM.slice (rect3 r) (fun _ => rfl)).squeeze S512x2048 squeezes_S1x512x2048_S512x2048
abbrev rbufM (r : Fin 4) (j : Fin 2) : Memref sig .tc .vmem S512x2048 .bf16 := (rM.slice (rect4 r j) (fun _ => rfl)).squeeze S512x2048 squeezes_S1x1x512x2048_S512x2048

theorem inbs2 : ∀ (r : Fin 4) (j : Fin 2) (a : Fin 2), (![r.val, j.val] : Fin 2 → Nat) a + S1x1.size a ≤ S4x2.size a := by decide
theorem inbs1 : ∀ (r : Fin 4) (a : Fin 1), (![r.val] : Fin 1 → Nat) a + S1.size a ≤ S4.size a := by decide

abbrev sendS (r : Fin 4) (j : Fin 2) : DmaSem sig := ((cc0_scratch3.slice (Rect.unit (s := S4x2) ![r.val, j.val] S1x1.size (inbs2 r j))).squeeze S_ squeezes_S1x1_S_).sem
abbrev recvS (r : Fin 4) (j : Fin 2) : DmaSem sig := ((cc0_scratch4.slice (Rect.unit (s := S4x2) ![r.val, j.val] S1x1.size (inbs2 r j))).squeeze S_ squeezes_S1x1_S_).sem
abbrev credS (r : Fin 4) : Sem sig := ((cc0_scratch5.slice (Rect.unit (s := S4) ![r.val] S1.size (inbs1 r))).squeeze S_ squeezes_S1_S_).sem
abbrev outS (r : Fin 4) : DmaSem sig := ((cc0_scratch6.slice (Rect.unit (s := S4) ![r.val] S1.size (inbs1 r))).squeeze S_ squeezes_S1_S_).sem

/-- The semaphore of the handshake before the first message. -/
abbrev barS : Sem sig := (SemArray.scalar (sig.barrier 0 rfl) : Sems sig S_).sem

/-! ## The neighbours and the blocks' places -/

/-- The device's own place as the body computes it. -/
abbrev v2W (d : Dev nD) : BitVec 32 := Scalar.remsi (Scalar.divsi (Dev.word d) 1#32) 8#32
/-- The right neighbour's place, and the left one's. -/
abbrev rightW (d : Dev nD) : BitVec 32 := Scalar.remsi (Scalar.addi (v2W d) 1#32) 8#32
abbrev leftW (d : Dev nD) : BitVec 32 := Scalar.remsi (Scalar.subi (Scalar.addi (v2W d) 8#32) 1#32) 8#32
def rightN (d : Dev nD) : ℕ := (Scalar.addi 0#32 (Scalar.muli (rightW d) 1#32)).toNat
def leftN (d : Dev nD) : ℕ := (Scalar.addi 0#32 (Scalar.muli (leftW d) 1#32)).toNat
theorem rightN_lt : ∀ d : Dev nD, rightN d < nD := by decide +kernel
theorem leftN_lt : ∀ d : Dev nD, leftN d < nD := by decide +kernel
def rightD (d : Dev nD) : Dev nD := ⟨rightN d, rightN_lt d⟩
def leftD (d : Dev nD) : Dev nD := ⟨leftN d, leftN_lt d⟩
/-- The device that ring `r` sends to, and the one that it receives from. -/
def toD (r : Fin 4) (d : Dev nD) : Dev nD := if r.val < 2 then rightD d else leftD d
def fromD (r : Fin 4) (d : Dev nD) : Dev nD := if r.val < 2 then leftD d else rightD d

/-- `± n` by the ring's direction, as a word. -/
def sgnW (r : Fin 4) (n : ℕ) : BitVec 32 :=
  if r.val < 2 then match n with | 0 => 0#32 | 1 => 1#32 | 2 => 2#32 | 3 => 3#32 | 4 => 4#32 | 5 => 5#32 | 6 => 6#32 | _ => 7#32
  else match n with | 0 => 0#32 | 1 => 4294967295#32 | 2 => 4294967294#32 | 3 => 4294967293#32 | 4 => 4294967292#32 | 5 => 4294967291#32 | 6 => 4294967290#32 | _ => 4294967289#32
/-- `mod (d - w)` of the body. -/
abbrev modW (d : Dev nD) (w : BitVec 32) : BitVec 32 := Scalar.remsi (Scalar.addi (Scalar.subi (v2W d) w) 32#32) 8#32
/-- The first row of the block that the `t`-th product of ring `r` takes. -/
def gRow (d : Dev nD) (r : Fin 4) (t : ℕ) : ℕ :=
  (Scalar.indexCast (Scalar.muli (t.rec (v2W d) fun n _ => modW d (sgnW r (n + 1))) 512#32)).toNat
/-- The first row of the block that the `k`-th copy out of ring `r` writes. -/
def oRow (d : Dev nD) (r : Fin 4) (k : ℕ) : ℕ :=
  (Scalar.muli (Scalar.remsi (Scalar.addi (k.rec (Scalar.addi (v2W d) (sgnW r 1)) fun n _ => Scalar.subi (v2W d) (sgnW r n)) 32#32) 8#32) 512#32).toNat

theorem gRow_le : ∀ (t : Fin 8) (r : Fin 4) (d : Dev nD), gRow d r t.val + 512 ≤ 4096 := by decide +kernel
theorem oRow_le : ∀ (k : Fin 8) (r : Fin 4) (d : Dev nD), oRow d r k.val + 512 ≤ 4096 := by decide +kernel

theorem inbG (d : Dev nD) (r : Fin 4) (t : Fin 8) : ∀ a, (![gRow d r t.val, 0] : Fin 2 → Nat) a + S512x512.size a ≤ S4096x512.size a := by
  intro a; have := gRow_le t r d; fin_cases a
  · simpa using this
  · simp
theorem inbO (d : Dev nD) (r : Fin 4) (k : Fin 8) : ∀ a, (![oRow d r k.val, 2048 * r.val] : Fin 2 → Nat) a + S512x2048.size a ≤ S4096x8192.size a := by
  intro a; have := oRow_le k r d; have := r.isLt; fin_cases a
  · simpa using ‹oRow d r k.val + 512 ≤ 4096›
  · simp; omega

abbrev outM (d : Dev nD) (r : Fin 4) (k : Fin 8) : Memref sig .tc .hbm S512x2048 .f32 := oM.slice (Rect.unit (s := S4096x8192) ![oRow d r k.val, 2048 * r.val] S512x2048.size (inbO d r k)) (fun _ => rfl)

/-! ## The operations -/

/-- The step that sends `h`'s source lies in the ring's send buffer (up to step 7) or in the slot that the message before it landed in. -/
inductive Op where
  | gemm (r : Fin 4) (t : Fin 8)
  | cast (r : Fin 4)
  | sendS (r : Fin 4) (h : ℕ)
  | sendR (r : Fin 4) (h : ℕ)
  | recvS (r : Fin 4) (h : ℕ)
  | recvR (r : Fin 4) (h : ℕ)
  | sentS (r : Fin 4) (h : ℕ)
  | sentR (r : Fin 4) (h : ℕ)
  | upd (r : Fin 4) (h : ℕ)
  | fin (r : Fin 4)
  | widen (r : Fin 4) (h : ℕ)
  | outStart (r : Fin 4) (k : Fin 8)
  | outWait (r : Fin 4) (k : Fin 8)
  | sig (r : Fin 4)
  | cwait (r : Fin 4)

abbrev P (F : FTy → Type) (α : Type) := Prog (TpuEff nD τ sig (Elt F) Λ₀ .tc) α

abbrev ldA (r : Fin 4) : P F (Vec F S1x512x2048 .f32) := Prog.lift (.load aM (rect3 r).toLoadRect (View.loadsAt_vmem h_S1x512x2048))
abbrev ldS (r : Fin 4) : P F (Vec F S1x512x2048 .bf16) := Prog.lift (.load sM (rect3 r).toLoadRect (View.loadsAt_vmem h_S1x512x2048))
abbrev ldR (r : Fin 4) (j : Fin 2) : P F (Vec F S1x1x512x2048 .bf16) := Prog.lift (.load rM (rect4 r j).toLoadRect (View.loadsAt_vmem h_S1x1x512x2048))
abbrev stA (r : Fin 4) (v : Vec F S1x512x2048 .f32) : P F PUnit := Prog.lift (.store aM (rect3 r) v Finset.univ (View.stores_vmem_bits_univ h_S1x512x2048 rfl) (.inl rfl))
abbrev stS (r : Fin 4) (v : Vec F S1x512x2048 .bf16) : P F PUnit := Prog.lift (.store sM (rect3 r) v Finset.univ (View.stores_vmem h_S1x512x2048 ((Memref.isWhole_whole _).storeExact_slice rfl _ (packed3 r)) (fun _ => rfl)) (.inl rfl))
abbrev wordS (r : Fin 4) : (sbufM r).view.WordExact := (((Memref.isWhole_whole _).wordExact_slice rfl _ (words3 r)).reshape _ _)
abbrev wordR (r : Fin 4) (j : Fin 2) : (rbufM r j).view.WordExact := (((Memref.isWhole_whole _).wordExact_slice rfl _ (words4 r j)).reshape _ _)

/-- One operation of the body on device `d`, the scale being `s`. -/
def opProg (d : Dev nD) (s : F .f32) : Op → P F PUnit
  | .gemm r t => do
      let x : Vec F S512x512 .fp8e5m2 ← Prog.lift (.load xM (Rect.unit (s := S4096x512) ![gRow d r t.val, 0] S512x512.size (inbG d r t)).toLoadRect (View.loadsAt_vmem h_S512x512))
      let w : Vec F S512x2048 .fp8e5m2 ← Prog.lift (.load wM (Rect.unit (s := S512x8192) ![0, 2048 * r.val] S512x2048.size (inbW r)).toLoadRect (View.loadsAt_vmem h_S512x2048))
      let _ ← ldA r
      stA r (k0_pay2 x w)
  | .cast r => do
      let a ← ldA r
      let _ ← ldS r
      stS r (k0_pay3 a)
  | .sendS r h => Prog.lift (.enqueueDma (sbufM r) (.remote (Dev.tc (toD r d)) (rbufM r (par h)) (.dma (sendS r (par h)))) (.dma (recvS r (par h))) (wordS r) (wordR r (par h)) ⟨⟨rfl, Or.inl rfl⟩, trivial⟩)
  | .sendR r h => Prog.lift (.enqueueDma (rbufM r (par (h + 1))) (.remote (Dev.tc (toD r d)) (rbufM r (par h)) (.dma (sendS r (par h)))) (.dma (recvS r (par h))) (wordR r (par (h + 1))) (wordR r (par h)) ⟨⟨rfl, Or.inl rfl⟩, trivial⟩)
  | .recvS r h => Prog.lift (.waitDma2 (recvS r (par h)) (sbufM r) (rbufM r (par h)) (wordS r) (wordR r (par h)))
  | .recvR r h => Prog.lift (.waitDma2 (recvS r (par h)) (rbufM r (par (h + 1))) (rbufM r (par h)) (wordR r (par (h + 1))) (wordR r (par h)))
  | .sentS r h => Prog.lift (.waitDma2 (sendS r (par h)) (rbufM r (par h)) (sbufM r) (wordR r (par h)) (wordS r))
  | .sentR r h => Prog.lift (.waitDma2 (sendS r (par h)) (rbufM r (par h)) (rbufM r (par (h + 1))) (wordR r (par h)) (wordR r (par (h + 1))))
  | .upd r h => do
      let a ← ldA r
      let b ← ldR r (par h)
      let _ ← ldS r
      stS r (k0_pay39 a b)
  | .fin r => do
      let a ← ldA r
      let b ← ldR r (par 6)
      let _ ← ldA r
      stA r (k0_pay87 s a b)
      Prog.lift (.enqueueDma (accM r) (.here (outM d r 0)) (.dma (outS r)) ((View.wordExact_bits rfl).reshape _ _) (View.wordExact_bits rfl) ⟨Or.inl rfl, trivial⟩)
      let _ ← ldS r
      stS r (k0_pay88 s a b)
  | .widen r h => do
      let b ← ldR r (par h)
      let _ ← ldA r
      stA r (k0_pay92 b)
  | .outStart r k => Prog.lift (.enqueueDma (accM r) (.here (outM d r k)) (.dma (outS r)) ((View.wordExact_bits rfl).reshape _ _) (View.wordExact_bits rfl) ⟨Or.inl rfl, trivial⟩)
  | .outWait r k => Prog.lift (.waitDma2 (outS r) (accM r) (outM d r k) ((View.wordExact_bits rfl).reshape _ _) (View.wordExact_bits rfl))
  | .sig r => semSignalWord (fromD r d) (credS r) 1#32
  | .cwait r => semWaitWord (credS r) 1#32

/-- The operations of a list, one after another. -/
def run (d : Dev nD) (s : F .f32) : List Op → P F PUnit
  | [] => .ret ⟨⟩
  | o :: os => (opProg d s o).bind fun _ => run d s os

theorem run_append (d : Dev nD) (s : F .f32) (a b : List Op) : run d s (a ++ b) = (run d s a).bind fun _ => run d s b := by
  induction a with
  | nil => rfl
  | cons o os ih => simp only [List.cons_append, run, ih]; exact (Prog.bind_assoc _ _ _).symm

/-! ## The schedule -/

abbrev rings : List (Fin 4) := [0, 1, 2, 3]

/-- The prologue: every ring's own block, cast and sent, and the block that the first message is added to. -/
def setup : List Op :=
  (rings.flatMap fun r => [Op.gemm r 0, .cast r]) ++ (rings.map fun r => Op.sendS r 0) ++ rings.map fun r => Op.gemm r 1

/-- A step of the reduction, `h` of 0 … 5. -/
def redStep (h : ℕ) (t : Fin 8) : List Op :=
  rings.flatMap fun r => [Op.recvS r h, .sentS r h, .upd r h, .sig r] ++ (if h = 0 then [] else [Op.cwait r]) ++ [.sendS r (h + 1), .gemm r t]

/-- Step 6, which ends the reduction, and step 7, which begins the gathering. -/
def step6 : List Op := rings.flatMap fun r => [Op.recvS r 6, .sentS r 6, .fin r, .sig r, .cwait r, .sendS r 7]
def step7 : List Op := rings.flatMap fun r => [Op.recvS r 7, .sentS r 7, .cwait r, .sendR r 8]

/-- The copies out of what arrived in step `h`: copy `k` after copy `k'` is through. -/
def flush (h : ℕ) (k' k : Fin 8) : List Op := rings.flatMap fun r => [Op.outWait r k', .widen r h, .outStart r k]

/-- A step of the gathering, `h` of 8 … 12. -/
def gatStep (h : ℕ) (k' k : Fin 8) : List Op := flush (h - 1) k' k ++ rings.flatMap fun r => [Op.recvR r h, .sentR r h, .sig r, .cwait r, .sendR r (h + 1)]

def lastStep : List Op :=
  flush 12 5 6 ++ (rings.flatMap fun r => [Op.recvR r 13, .sentR r 13]) ++ flush 13 6 7 ++ rings.map fun r => Op.outWait r 7

/-- The whole body after the handshake. -/
def ops : List Op :=
  setup ++ redStep 0 2 ++ redStep 1 3 ++ redStep 2 4 ++ redStep 3 5 ++ redStep 4 6 ++ redStep 5 7 ++ step6 ++ step7
    ++ gatStep 8 0 1 ++ gatStep 9 1 2 ++ gatStep 10 2 3 ++ gatStep 11 3 4 ++ gatStep 12 4 5 ++ lastStep

/-- The whole body: the handshake with both neighbours, the scale, and the operations. -/
def whole : P F PUnit := do
  let d : Dev nD ← Prog.lift .deviceId
  semSignalWord (leftD d) barS 1#32
  semSignalWord (rightD d) barS 1#32
  semWaitWord barS 2#32
  let a ← smemLoad (win0_2.stage 0) (Rect.unit (s := S1) ![0] S1.size inb_S1_S1_0) numel1_S1 rfl
  let b ← smemLoad (win0_3.stage 0) (Rect.unit (s := S1) ![0] S1.size inb_S1_S1_0) numel1_S1 rfl
  run d (k0_pay1 a b) ops

end Cert.KernelIdeal.Body
-- ==== Proof.KernelIdeal.Sched.lean ====
/- The protocol between the devices: the values the messages carry, the semaphore cells and their rounds of duties,
   what each payment hands over, the order of the payments and the levels that order gives the waits. -/
module

public import proofs.«01_k».proof.Proof.KernelIdeal.Ops
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Release
public import Idealize.ShloMosaic.Lib.Tactic

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The values -/

/-- A number of a block as an index of the eight. -/
def f8 (k : ℕ) : Fin 8 := ⟨k % 8, Nat.mod_lt _ (by decide)⟩

/-- What the devices are given: each one's staged `x` and `w`, and the scale it computes. -/
structure Inp (F : FTy → Type) [FloatOps F] where
  x : Dev nD → xM.view.ty.Contents (Elt F)
  w : Dev nD → wM.view.ty.Contents (Elt F)
  s : Dev nD → F .f32

abbrev Blk (F : FTy → Type) (e : EltTy) := S512x2048.Idx → Elt F e

theorem sc_up3 : S512x2048.ShapeCasts S1x512x2048 := by decide
theorem sc_dn3 : S1x512x2048.ShapeCasts S512x2048 := by decide
theorem sc_up4 : S512x2048.ShapeCasts S1x1x512x2048 := by decide
/-- A block as a page of its buffer, and back. -/
def up3 {e : EltTy} (X : Blk F e) : Vec F S1x512x2048 e := shapeCast S1x512x2048 X sc_up3
def dn3 {e : EltTy} (X : Vec F S1x512x2048 e) : Blk F e := shapeCast S512x2048 X sc_dn3
def up4 {e : EltTy} (X : Blk F e) : Vec F S1x1x512x2048 e := shapeCast S1x1x512x2048 X sc_up4

/-- The block product that device `c` forms on ring `r` as its `t`-th. -/
def gV (I : Inp F) (r : Fin 4) (t : Fin 8) (c : Dev nD) : Blk F .f32 :=
  dn3 (k0_pay2 (xM.view.readAt (Elt F) (Rect.unit (s := S4096x512) ![gRow c r t.val, 0] S512x512.size (inbG c r t)).toLoadRect (I.x c))
    (wM.view.readAt (Elt F) (Rect.unit (s := S512x8192) ![0, 2048 * r.val] S512x2048.size (inbW r)).toLoadRect (I.w c)))

/-- The message that device `c` sends on ring `r` as its `h`-th: the running sum up to the sixth, the finished block
    at the seventh, and afterwards what it has just received. -/
def mV (I : Inp F) (r : Fin 4) : ℕ → Dev nD → Blk F .bf16
  | 0, c => dn3 (k0_pay3 (up3 (gV I r 0 c)))
  | h + 1, c =>
    if h ≤ 5 then dn3 (k0_pay39 (up3 (gV I r (f8 (h + 1)) c)) (up4 (mV I r h (fromD r c))))
    else if h = 6 then dn3 (k0_pay88 (I.s c) (up3 (gV I r 7 c)) (up4 (mV I r h (fromD r c))))
    else mV I r h (fromD r c)

/-- The `k`-th block of the result that device `c` writes on ring `r`. -/
def oV (I : Inp F) (r : Fin 4) (k : ℕ) (c : Dev nD) : Blk F .f32 :=
  match k with
  | 0 => dn3 (k0_pay87 (I.s c) (up3 (gV I r 7 c)) (up4 (mV I r 6 (fromD r c))))
  | k + 1 => dn3 (k0_pay92 (up4 (mV I r (k + 7) (fromD r c))))

/-! ## The resource algebra -/

abbrev UC : Type := URounds (GSem nD τ sig) ℕ
/-- A slot of a receive buffer: the device, the ring and which of the two. -/
abbrev Key : Type := Dev nD × Fin 4 × Fin 2
abbrev UU : Type := UR sig nD τ × (UC × USlots Key)

local notation "𝕄" => MT nD τ sig ℕ (Elt F) ℕ UU ℕ

abbrev EP : Emb (UR sig nD τ) (MT nD τ sig ℕ (Elt F) ℕ UU ℕ) := embL
abbrev ER : Emb UC (MT nD τ sig ℕ (Elt F) ℕ UU ℕ) := (Emb.inl : Emb UC (UC × USlots Key)).trans embR
abbrev ES : Emb (USlots Key) (MT nD τ sig ℕ (Elt F) ℕ UU ℕ) := (Emb.inr : Emb (USlots Key) (UC × USlots Key)).trans embR

/-! ## The cells -/

/-- The kinds of a device's semaphore cells. -/
inductive Ck where
  | send (r : Fin 4) (j : Fin 2)
  | recv (r : Fin 4) (j : Fin 2)
  | cred (r : Fin 4)
  | out (r : Fin 4)
  | bar
  deriving DecidableEq

def allCk : List Ck :=
  (rings.flatMap fun r => [Ck.send r 0, .send r 1, .recv r 0, .recv r 1, .cred r, .out r]) ++ [.bar]

instance : Fintype Ck where
  elems := ⟨allCk, Multiset.coe_nodup.mpr (by decide)⟩
  complete k := by
    have h : k ∈ allCk := by
      rcases k with ⟨r, j⟩ | ⟨r, j⟩ | r | r | _
      · revert r j; decide
      · revert r j; decide
      · revert r; decide
      · revert r; decide
      · decide
    exact h

def csem : Ck → SemLoc sig
  | .send r j => .dma (sendS r j)
  | .recv r j => .dma (recvS r j)
  | .cred r => .reg (credS r)
  | .out r => .dma (outS r)
  | .bar => .reg barS

abbrev kcell (c : Dev nD) (k : Ck) : GSem nD τ sig := ((c : Thread nD τ), csem k)

/-- The kind of a semaphore. -/
def kindOf (sm : SemLoc sig) : Option Ck := allCk.find? fun k => csem k = sm

theorem kindOf_csem : ∀ k : Ck, kindOf (csem k) = some k := by decide +kernel
theorem csem_injective : Function.Injective csem := fun a b h => Option.some.inj ((kindOf_csem a).symm.trans (h ▸ kindOf_csem b))

/-- The units a message's arrival, and a block's, is worth. -/
@[irreducible] def N : ℕ := (rbufM 0 0).view.dmaCredit
@[irreducible] def NO : ℕ := (accM 0).view.dmaCredit
theorem N_pos : 0 < N := by unfold N; exact View.dmaCredit_pos _ (by decide)
theorem NO_pos : 0 < NO := by unfold NO; exact View.dmaCredit_pos _ (by decide)
theorem cred_rbuf (r : Fin 4) (j : Fin 2) : (rbufM r j).view.dmaCredit = N := by unfold N; rfl
theorem cred_sbuf (r : Fin 4) : (sbufM r).view.dmaCredit = N := by unfold N; rfl
theorem cred_acc (r : Fin 4) : (accM r).view.dmaCredit = NO := by unfold NO; rfl
theorem cred_out (d : Dev nD) (r : Fin 4) (k : Fin 8) : (outM d r k).view.dmaCredit = NO := by unfold NO; rfl

/-! ## The payloads -/

/-- Device `e`'s slot for message `m` of ring `r` is free: it has released it for that write, and waited for all the
    arrivals in it before. -/
def avail (e : Dev nD) (r : Fin 4) (m : ℕ) : sProp 𝕄 :=
  iprop(released ES (e, r, par m) (m / 2 + 1) ∗ reached ER (kcell e (.recv r (par m))) (m / 2))

instance avail_persistent (e : Dev nD) (r : Fin 4) (m : ℕ) : BI.Persistent (avail (F := F) e r m) := by unfold avail; infer_instance
instance avail_storable (e : Dev nD) (r : Fin 4) (m : ℕ) : BI.Storable (upEmb : UEmb _ 𝕄) (avail (F := F) e r m) := by unfold avail; infer_instance

/-- A buffer's page at some contents. -/
def anyS (c : Dev nD) (r : Fin 4) : sProp 𝕄 := iprop(∃ X, owns (c : Thread nD τ) (sbufM r) fullShare X)
def anyA (c : Dev nD) (r : Fin 4) : sProp 𝕄 := iprop(∃ X, owns (c : Thread nD τ) (accM r) fullShare X)
def anyR (c : Dev nD) (r : Fin 4) (j : Fin 2) : sProp 𝕄 := iprop(∃ X, owns (c : Thread nD τ) (rbufM r j) fullShare X)
instance anyS_storable (c : Dev nD) (r : Fin 4) : BI.Storable (upEmb : UEmb _ 𝕄) (anyS (F := F) c r) := by unfold anyS; infer_instance
instance anyA_storable (c : Dev nD) (r : Fin 4) : BI.Storable (upEmb : UEmb _ 𝕄) (anyA (F := F) c r) := by unfold anyA; infer_instance
instance anyR_storable (c : Dev nD) (r : Fin 4) (j : Fin 2) : BI.Storable (upEmb : UEmb _ 𝕄) (anyR (F := F) c r j) := by unfold anyR; infer_instance

variable (I : Inp F)

/-- What comes back when message `h` has left: the send buffer's page, or the half of the slot it was sent from. -/
def backP (c : Dev nD) (r : Fin 4) (h : ℕ) : sProp 𝕄 :=
  if h ≤ 7 then anyS c r else owns (c : Thread nD τ) (rbufM r (par (h + 1))) fullShare.left (mV I r (h - 1) (fromD r c))

/-- What message `h`'s arrival hands its receiver. -/
def recvP (c : Dev nD) (r : Fin 4) (h : ℕ) : sProp 𝕄 :=
  owns (c : Thread nD τ) (rbufM r (par h)) fullShare (mV I r h (fromD r c))

/-- What the end of the `k`-th copy out hands back: the accumulator's page, and the block of the result. -/
def outP (c : Dev nD) (r : Fin 4) (k : ℕ) : sProp 𝕄 :=
  iprop(anyA c r ∗ owns (c : Thread nD τ) (outM c r (f8 k)) fullShare (oV I r k c))

def pay2P (e : Dev nD) (r : Fin 4) : sProp 𝕄 := iprop(avail e r 0 ∗ avail e r 1)

def payK (c : Dev nD) : Ck → ℕ → ℕ → sProp 𝕄
  | .send r j, n, _ => backP I c r (2 * n + j.val)
  | .recv r j, n, _ => recvP I c r (2 * n + j.val)
  | .cred r, _, k => iprop(avail (toD r c) r (k + 2) ∗ avail (toD r c) r (k + 1))
  | .out r, n, _ => outP I c r n
  | .bar, _, d => if d = 0 then iprop(pay2P (rightD c) 0 ∗ pay2P (rightD c) 1) else iprop(pay2P (leftD c) 2 ∗ pay2P (leftD c) 3)

instance payK_storable (c : Dev nD) (k : Ck) (n d : ℕ) : BI.Storable (upEmb : UEmb _ 𝕄) (payK I c k n d) := by
  unfold payK backP recvP outP pay2P
  split <;> (repeat' split) <;> infer_instance

def dutyK : Ck → ℕ → Finset ℕ
  | .send _ _, n => if n < 7 then {0} else ∅
  | .recv _ _, n => if n < 7 then {0} else ∅
  | .cred _, n => if n = 0 then Finset.range 12 else ∅
  | .out _, n => if n < 8 then {0} else ∅
  | .bar, n => if n = 0 then {0, 1} else ∅

def amtK : Ck → ℕ
  | .send _ _ => N
  | .recv _ _ => N
  | .out _ => NO
  | .cred _ => 1
  | .bar => 1

theorem amtK_pos : ∀ k : Ck, 0 < amtK k
  | .send _ _ => N_pos
  | .recv _ _ => N_pos
  | .out _ => NO_pos
  | .cred _ => Nat.one_pos
  | .bar => Nat.one_pos

/-- The rounds of every cell. -/
def Rd : Rounds.Schedule (GSem nD τ sig) ℕ 𝕄 where
  duties g n := if g.1.2 = .tc then (match kindOf g.2 with | some k => dutyK k n | none => ∅) else ∅
  unitless _ := False
  amount g _ _ := match kindOf g.2 with | some k => amtK k | none => 1
  payload g n d := match kindOf g.2 with | some k => payK I g.1.1 k n d | none => iprop(emp)
  amount_pos g _ _ _ := by
    split
    · exact amtK_pos _
    · exact Nat.one_pos

instance Rd_payload_storable (g : GSem nD τ sig) (n d : ℕ) : BI.Storable (upEmb : UEmb _ 𝕄) ((Rd I).payload g n d) := by
  show BI.Storable upEmb (match kindOf g.2 with | some k => payK I g.1.1 k n d | none => iprop(emp))
  split <;> infer_instance

theorem Rd_duties (c : Dev nD) (k : Ck) (n : ℕ) : (Rd I).duties (kcell c k) n = dutyK k n := by
  dsimp only [Rd]; rw [kindOf_csem]; exact if_pos rfl
theorem Rd_amount (c : Dev nD) (k : Ck) (n d : ℕ) : (Rd I).amount (kcell c k) n d = amtK k := by
  dsimp only [Rd]; rw [kindOf_csem]
theorem Rd_payload (c : Dev nD) (k : Ck) (n d : ℕ) : (Rd I).payload (kcell c k) n d = payK I c k n d := by
  dsimp only [Rd]; rw [kindOf_csem]
theorem Rd_expect (c : Dev nD) (k : Ck) (n : ℕ) : (Rd I).expect (kcell c k) n = (dutyK k n).card * amtK k := by
  unfold Schedule.expect Schedule.amountOf
  rw [Rd_duties, Finset.sum_congr rfl fun d _ => Rd_amount I c k n d, Finset.sum_const, smul_eq_mul]
/-- Nothing is due on a cell from a round on. -/
theorem Rd_later (c : Dev nD) (k : Ck) (n : ℕ) (h : ∀ r, n ≤ r → dutyK k r = ∅) : ∀ r, n ≤ r → (Rd I).duties (kcell c k) r = ∅ :=
  fun r hr => (Rd_duties I c k r).trans (h r hr)

/-- A round of one duty: its rest is that duty's payload. -/
theorem Rd_rest (c : Dev nD) (k : Ck) (n : ℕ) (h : dutyK k n = {0}) :
    bigSep ((Rd I).duties (kcell c k) n \ ∅) (fun d => (Rd I).payload (kcell c k) n d) = payK I c k n 0 := by
  rw [Finset.sdiff_empty, Rd_duties, h, bigSep_singleton, Rd_payload]

/-! ## The payments in order, and the levels -/

inductive Pay where
  | barL
  | barR
  | send (r : Fin 4) (h : ℕ)
  | crd (r : Fin 4) (k : ℕ)
  deriving DecidableEq

def Pay.kind : Pay → Ck
  | .barL => .bar
  | .barR => .bar
  | .send r h => .recv r (par h)
  | .crd r _ => .cred r
def Pay.idx : Pay → ℕ
  | .barL => 0
  | .barR => 0
  | .send _ h => h
  | .crd _ k => k
def Pay.amt (p : Pay) : ℕ := amtK p.kind
/-- The device paid by device `c`. -/
def Pay.dst : Pay → Dev nD → Dev nD
  | .barL => leftD
  | .barR => rightD
  | .send r _ => toD r
  | .crd r _ => fromD r

def Pay.tally (c : Dev nD) (p : Pay) : CellTallies nD τ sig ℕ := tallyAt (kcell (p.dst c) p.kind) p.idx p.amt

/-- What device `c` owes when the payments `l` are still to be made. -/
def owed (c : Dev nD) : List Pay → CellTallies nD τ sig ℕ
  | [] => 0
  | p :: l => owed c l + p.tally c

def levK : Ck → ℕ → ℕ
  | .bar, _ => 1
  | .recv r _, h => 8 * h + 2 * r.val + 2
  | .cred r, k => if k ≤ 6 then 8 * (k + 1) + 2 * r.val + 1 else 8 * (k + 2) + 2 * r.val + 1
  | _, _ => 0

def Pay.lev (p : Pay) : ℕ := levK p.kind p.idx

def L (g : GSem nD τ sig) : Finset ℕ := if g.1.2 = .tc then Finset.range 14 else ∅
def lv (g : GSem nD τ sig) (i : ℕ) : ℕ := match kindOf g.2 with | some k => levK k i | none => 0

theorem L_of_ne (g : GSem nD τ sig) (h : g.1.2 ≠ .tc) : L g = ∅ := if_neg h
theorem L_tc (c : Dev nD) (sm : SemLoc sig) : L ((c : Thread nD τ), sm) = Finset.range 14 := if_pos rfl
theorem lv_kcell (c : Dev nD) (k : Ck) (i : ℕ) : lv (kcell c k) i = levK k i := by unfold lv; rw [kindOf_csem]

theorem owed_pos {c : Dev nD} {l : List Pay} {g : GSem nD τ sig} {i : ℕ} (h : 0 < owed c l g i) :
    ∃ p ∈ l, g = kcell (p.dst c) p.kind ∧ i = p.idx := by
  induction l with
  | nil => exact absurd h (Nat.lt_irrefl 0)
  | cons p l ih =>
    rcases Pipeline.add_pos_cases h with h | h
    · obtain ⟨q, hq, e⟩ := ih h; exact ⟨q, List.mem_cons_of_mem _ hq, e⟩
    · exact ⟨p, List.mem_cons_self, Pipeline.tallyAt_pos h⟩

/-- A wait at level `b`, when every payment still to be made is above it. -/
theorem mayWait_lev (c : Dev nD) (sm : SemLoc sig) (i : ℕ) (hi : i < 14) (l : List Pay)
    (hl : ∀ p ∈ l, p.idx < 14 ∧ lv ((c : Thread nD τ), sm) i < p.lev) :
    (levAts L lv : sProp 𝕄) ⊢ MayWait (c : Thread nD τ) sm i (owed c l) :=
  Pipeline.mayWait_of_levAts (by rw [L_tc]; exact Finset.mem_range.mpr hi) fun g j hg => by
    obtain ⟨p, hp, rfl, rfl⟩ := owed_pos hg
    rw [L_tc, lv_kcell]
    exact ⟨Finset.mem_range.mpr (hl p hp).1, (hl p hp).2⟩

/-- The same on a cell of a kind. -/
theorem mayWait_cell (c : Dev nD) (k : Ck) (i : ℕ) (hi : i < 14) (l : List Pay)
    (hl : ∀ p ∈ l, p.idx < 14 ∧ levK k i < p.lev) :
    (levAts L lv : sProp 𝕄) ⊢ MayWait (c : Thread nD τ) (csem k) i (owed c l) :=
  mayWait_lev c (csem k) i hi l fun p hp => ⟨(hl p hp).1, by rw [show lv ((c : Thread nD τ), csem k) i = levK k i from lv_kcell c k i]; exact (hl p hp).2⟩

/-! ## What every device may use at any time -/

abbrev slotP (k : Key) : sProp 𝕄 := slot ((rbufM k.2.1 k.2.2).view.loc (k.1 : Thread nD τ)) (rbufM k.2.1 k.2.2).view.set

/-- The invariants of all cells and all slots, and the levels. -/
def recs (K : Dev nD × Ck → ℕ) (ι : Key → ℕ) : sProp 𝕄 :=
  iprop((bigSep Finset.univ fun ck : Dev nD × Ck => cellInv ER (Rd I) (K ck) (kcell ck.1 ck.2))
    ∗ (bigSep Finset.univ fun k : Key => slotInv ES (ι k) k (slotP k))
    ∗ (bigSep Finset.univ fun ck : Dev nD × Ck => reached ER (kcell ck.1 ck.2) 0)
    ∗ levAts L lv)

instance recs_persistent (K : Dev nD × Ck → ℕ) (ι : Key → ℕ) : BI.Persistent (recs I K ι) := by unfold recs; infer_instance

variable (K : Dev nD × Ck → ℕ) (ι : Key → ℕ)

theorem recs_cell (c : Dev nD) (k : Ck) : recs I K ι ⊢ cellInv ER (Rd I) (K (c, k)) (kcell c k) := by
  refine BIBase.Entails.trans ?_ (bigSep_elim (Φ := fun ck : Dev nD × Ck => (cellInv ER (Rd I) (K ck) (kcell ck.1 ck.2) : sProp 𝕄)) (Finset.mem_univ (c, k)))
  unfold recs
  iintro ⟨H, -, -, -⟩
  iexact H
theorem recs_slot (k : Key) : recs I K ι ⊢ slotInv ES (ι k) k (slotP k) := by
  refine BIBase.Entails.trans ?_ (bigSep_elim (Φ := fun k : Key => (slotInv ES (ι k) k (slotP k) : sProp 𝕄)) (Finset.mem_univ k))
  unfold recs
  iintro ⟨-, H, -, -⟩
  iexact H
theorem recs_reached (c : Dev nD) (k : Ck) : recs I K ι ⊢ reached ER (kcell c k) 0 := by
  refine BIBase.Entails.trans ?_ (bigSep_elim (Φ := fun ck : Dev nD × Ck => (reached ER (kcell ck.1 ck.2) 0 : sProp 𝕄)) (Finset.mem_univ (c, k)))
  unfold recs
  iintro ⟨-, -, H, -⟩
  iexact H
theorem recs_lev : recs I K ι ⊢ (levAts L lv : sProp 𝕄) := by
  unfold recs
  iintro ⟨-, -, -, H⟩
  iexact H

end Cert.KernelIdeal.Body

end
-- ==== Proof.KernelIdeal.Mem.lean ====
/- The steps of the body that touch the memory of one device only: what each load and store does to a page of a
   buffer, and from those the products, casts, sums and finished blocks. -/
module

public import proofs.«01_k».proof.Proof.KernelIdeal.Sched

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

/-- The weakest precondition of a program of device `c`'s core. -/
abbrev WP (c : Dev nD) (p : P F PUnit) (Q : PUnit.{1} → sProp (MT nD τ sig ℕ (Elt F) ℕ UU ℕ)) : sProp 𝕄 :=
  wp frame (wpE (defs₀ (F := F)) 𝒱₀ (c : Thread nD τ) none) Set.univ p Q

variable (c : Dev nD) (Q : PUnit.{1} → sProp (MT nD τ sig ℕ (Elt F) ℕ UU ℕ))

/-- A load of a page of a buffer, the page being held as a squeezed slice. -/
theorem load_page {s s' : Shape} {e : EltTy} (M : Memref sig .tc .vmem s e) (r : Rect s) (hr : ∀ a, r.stride a = 1)
    (hq : r.shape.Squeezes s') (hc : s'.ShapeCasts r.shape) {hl : M.view.LoadsAt r.toLoadRect} (q : PosShare TreeShare)
    (X : s'.Idx → Elt F e) {k : (r.toLoadRect.shape.Idx → Elt F e) → P F PUnit} :
    (owns (c : Thread nD τ) ((M.slice r hr).squeeze s' hq) q X : sProp 𝕄)
      ⊢ iprop((owns (c : Thread nD τ) ((M.slice r hr).squeeze s' hq) q X -∗ WP c (k (shapeCast r.shape X hc)) Q)
          -∗ WP c (.op (.load M r.toLoadRect hl) k) Q) := by
  unfold owns
  iintro ⟨%f, %hf, H⟩ Hk
  subst hf
  have hS : M.view.setOn r.toLoadRect.set ⊆ ((M.slice r hr).squeeze s' hq).view.set := by
    rw [Memref.set_view_squeeze]
    exact (View.set_slice M.view r).symm.subset
  iapply (wp_load 𝒱₀ (c : Thread nD τ) none Set.univ (m := M) hS) $$ H
  iintro H
  have he : shapeCast r.shape (((M.slice r hr).squeeze s' hq).view.read (Elt F) f) hc = M.view.readAt (Elt F) r.toLoadRect f := by
    rw [Memref.read_squeeze_slice M r hr hq hc.symm f, shapeCast_shapeCast]
  rw [← he]
  iapply Hk
  iexists f
  isplitr; · ipureintro; rfl
  iexact H

/-- A store into a page of a buffer. -/
theorem store_page {s s' : Shape} {e : EltTy} (M : Memref sig .tc .vmem s e) (r : Rect s) (hr : ∀ a, r.stride a = 1)
    (hq : r.shape.Squeezes s') (hc : r.shape.ShapeCasts s') (X : s'.Idx → Elt F e) (v : r.shape.Idx → Elt F e)
    {hx : (M.access r).Stores Finset.univ} {hm : (Finset.univ : Finset r.shape.Idx) = Finset.univ ∨ ∀ a, r.stride a = 1}
    {k : PUnit → P F PUnit} :
    (owns (c : Thread nD τ) ((M.slice r hr).squeeze s' hq) fullShare X : sProp 𝕄)
      ⊢ iprop((owns (c : Thread nD τ) ((M.slice r hr).squeeze s' hq) fullShare (shapeCast s' v hc) -∗ WP c (k ⟨⟩) Q)
          -∗ WP c (.op (.store M r v Finset.univ hx hm) k) Q) := by
  unfold owns
  iintro ⟨%f, %hf, H⟩ Hk
  have hS : (M.access r).setOn Finset.univ ⊆ ((M.slice r hr).squeeze s' hq).view.set := by
    rw [Memref.set_view_squeeze]; exact Finset.Subset.refl _
  iapply (wp_store 𝒱₀ (c : Thread nD τ) none Set.univ (m := M) hS) $$ H
  iintro H
  iapply Hk
  iexists _
  isplitr [H]
  on_goal 2 => iexact H
  ipureintro
  rw [Memref.read_squeeze_slice M r hr hq hc]
  exact congrArg (fun z => shapeCast s' z hc) (View.read_write_univ (v := M.access r) f v)

variable (I : Inp F)

/-- The pages and slots at given contents. -/
abbrev accO (c : Dev nD) (r : Fin 4) (X : Blk F .f32) : sProp 𝕄 := owns (c : Thread nD τ) (accM r) fullShare X
abbrev sbufO (c : Dev nD) (r : Fin 4) (X : Blk F .bf16) : sProp 𝕄 := owns (c : Thread nD τ) (sbufM r) fullShare X
abbrev rbufO (c : Dev nD) (r : Fin 4) (j : Fin 2) (q : PosShare TreeShare) (X : Blk F .bf16) : sProp 𝕄 := owns (c : Thread nD τ) (rbufM r j) q X

/-- The staged operands. -/
def xwP (c : Dev nD) : sProp 𝕄 :=
  iprop((xM.view.loc (c : Thread nD τ) ↦{fullShare} I.x c) ∗ (wM.view.loc (c : Thread nD τ) ↦{fullShare} I.w c))

variable (s : F .f32) (p : P F PUnit) (rest : List Op)

theorem ld_acc (r : Fin 4) (X : Blk F .f32) {hl} {k : Vec F S1x512x2048 .f32 → P F PUnit} :
    (accO c r X : sProp 𝕄) ⊢ iprop((accO c r X -∗ WP c (k (up3 X)) Q) -∗ WP c (.op (.load aM (rect3 r).toLoadRect hl) k) Q) :=
  load_page c Q aM (rect3 r) (fun _ => rfl) squeezes_S1x512x2048_S512x2048 sc_up3 fullShare X
theorem ld_sbuf (r : Fin 4) (X : Blk F .bf16) {hl} {k : Vec F S1x512x2048 .bf16 → P F PUnit} :
    (sbufO c r X : sProp 𝕄) ⊢ iprop((sbufO c r X -∗ WP c (k (up3 X)) Q) -∗ WP c (.op (.load sM (rect3 r).toLoadRect hl) k) Q) :=
  load_page c Q sM (rect3 r) (fun _ => rfl) squeezes_S1x512x2048_S512x2048 sc_up3 fullShare X
theorem ld_rbuf (r : Fin 4) (j : Fin 2) (q : PosShare TreeShare) (X : Blk F .bf16) {hl} {k : Vec F S1x1x512x2048 .bf16 → P F PUnit} :
    (rbufO c r j q X : sProp 𝕄) ⊢ iprop((rbufO c r j q X -∗ WP c (k (up4 X)) Q) -∗ WP c (.op (.load rM (rect4 r j).toLoadRect hl) k) Q) :=
  load_page c Q rM (rect4 r j) (fun _ => rfl) squeezes_S1x1x512x2048_S512x2048 sc_up4 q X
theorem st_acc (r : Fin 4) (X : Blk F .f32) (v : Vec F S1x512x2048 .f32) {hx hm} {k : PUnit → P F PUnit} :
    (accO c r X : sProp 𝕄) ⊢ iprop((accO c r (dn3 v) -∗ WP c (k ⟨⟩) Q) -∗ WP c (.op (.store aM (rect3 r) v Finset.univ hx hm) k) Q) :=
  store_page c Q aM (rect3 r) (fun _ => rfl) squeezes_S1x512x2048_S512x2048 sc_dn3 X v
theorem st_sbuf (r : Fin 4) (X : Blk F .bf16) (v : Vec F S1x512x2048 .bf16) {hx hm} {k : PUnit → P F PUnit} :
    (sbufO c r X : sProp 𝕄) ⊢ iprop((sbufO c r (dn3 v) -∗ WP c (k ⟨⟩) Q) -∗ WP c (.op (.store sM (rect3 r) v Finset.univ hx hm) k) Q) :=
  store_page c Q sM (rect3 r) (fun _ => rfl) squeezes_S1x512x2048_S512x2048 sc_dn3 X v

/-- A block product into the accumulator's page. -/
theorem wp_gemm (r : Fin 4) (t : Fin 8) :
    iprop(xwP I c ∗ anyA c r)
      ⊢ iprop(((xwP I c ∗ accO c r (gV I r t c)) -∗ WP c (run c s rest) Q) -∗ WP c (run c s (.gemm r t :: rest)) Q) := by
  simp only [run, opProg, Prog.lift, Prog.bind_op, Prog.bind_ret, Prog.pure_eq_ret]
  unfold xwP anyA
  iintro ⟨⟨Hx, Hw⟩, ⟨%X, Ha⟩⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (ld_acc c Q r X) $$ Ha; iintro Ha
  iapply (st_acc c Q r X) $$ Ha; iintro Ha
  iapply Hk
  unfold gV
  iframe Hx Hw Ha

/-- The first message into the send buffer's page. -/
theorem wp_cast (r : Fin 4) (X : Blk F .f32) :
    iprop(accO c r X ∗ anyS c r)
      ⊢ iprop(((accO c r X ∗ sbufO c r (dn3 (k0_pay3 (up3 X)))) -∗ WP c (run c s rest) Q) -∗ WP c (run c s (.cast r :: rest)) Q) := by
  simp only [run, opProg, Prog.lift, Prog.bind_op, Prog.bind_ret, Prog.pure_eq_ret]
  unfold anyS
  iintro ⟨Ha, ⟨%Y, Hs⟩⟩ Hk
  iapply (ld_acc c Q r X) $$ Ha; iintro Ha
  iapply (ld_sbuf c Q r Y) $$ Hs; iintro Hs
  iapply (st_sbuf c Q r Y) $$ Hs; iintro Hs
  iapply Hk
  iframe Ha Hs

/-- The next message: the accumulator's page added to what has arrived. -/
theorem wp_upd (r : Fin 4) (h : ℕ) (X : Blk F .f32) (Y : Blk F .bf16) :
    iprop(accO c r X ∗ rbufO c r (par h) fullShare Y ∗ anyS c r)
      ⊢ iprop(((accO c r X ∗ rbufO c r (par h) fullShare Y ∗ sbufO c r (dn3 (k0_pay39 (up3 X) (up4 Y)))) -∗ WP c (run c s rest) Q)
          -∗ WP c (run c s (.upd r h :: rest)) Q) := by
  simp only [run, opProg, Prog.lift, Prog.bind_op, Prog.bind_ret, Prog.pure_eq_ret]
  unfold anyS
  iintro ⟨Ha, Hr, ⟨%Z, Hs⟩⟩ Hk
  iapply (ld_acc c Q r X) $$ Ha; iintro Ha
  iapply (ld_rbuf c Q r (par h) fullShare Y) $$ Hr; iintro Hr
  iapply (ld_sbuf c Q r Z) $$ Hs; iintro Hs
  iapply (st_sbuf c Q r Z) $$ Hs; iintro Hs
  iapply Hk
  iframe Ha Hr Hs

/-- What has arrived, widened into the accumulator's page. -/
theorem wp_widen (r : Fin 4) (h : ℕ) (q : PosShare TreeShare) (Y : Blk F .bf16) :
    iprop(rbufO c r (par h) q Y ∗ anyA c r)
      ⊢ iprop(((rbufO c r (par h) q Y ∗ accO c r (dn3 (k0_pay92 (up4 Y)))) -∗ WP c (run c s rest) Q)
          -∗ WP c (run c s (.widen r h :: rest)) Q) := by
  simp only [run, opProg, Prog.lift, Prog.bind_op, Prog.bind_ret, Prog.pure_eq_ret]
  unfold anyA
  iintro ⟨Hr, ⟨%X, Ha⟩⟩ Hk
  iapply (ld_rbuf c Q r (par h) q Y) $$ Hr; iintro Hr
  iapply (ld_acc c Q r X) $$ Ha; iintro Ha
  iapply (st_acc c Q r X) $$ Ha; iintro Ha
  iapply Hk
  iframe Hr Ha

end Cert.KernelIdeal.Body

end
-- ==== Proof.KernelIdeal.Steps.lean ====
/- The steps of the body that talk to a neighbour or to a transfer: sends, the waits for arrivals and for departures,
   the signals that a slot is free and the waits for them, and the copies out. -/
module

public import proofs.«01_k».proof.Proof.KernelIdeal.Mem

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem from_to : ∀ (r : Fin 4) (c : Dev nD), fromD r (toD r c) = c := by decide +kernel
theorem to_from : ∀ (r : Fin 4) (c : Dev nD), toD r (fromD r c) = c := by decide +kernel
theorem left_right : ∀ c : Dev nD, leftD (rightD c) = c := by decide +kernel
theorem right_left : ∀ c : Dev nD, rightD (leftD c) = c := by decide +kernel

theorem par_add_two (h : ℕ) : par (h + 2) = par h := Fin.ext (Nat.add_mod_right h 2)
theorem half_add_two (h : ℕ) : (h + 2) / 2 = h / 2 + 1 := Nat.add_div_right h (by decide)
theorem half_par (h : ℕ) : 2 * (h / 2) + (par h).val = h := Nat.div_add_mod h 2

/-! ## What a device holds of a ring -/

/-- Where the device stands on one of its cells: at the beginning of round `n`, which is known to be reached. -/
def posC (c : Dev nD) (k : Ck) (n : ℕ) : sProp 𝕄 := iprop(atPos ER (kcell c k) n ∅ 0 ∗ reached ER (kcell c k) n)
abbrev sPos (c : Dev nD) (r : Fin 4) (h : ℕ) : sProp 𝕄 := posC (F := F) c (.send r (par h)) (h / 2)
abbrev rPos (c : Dev nD) (r : Fin 4) (h : ℕ) : sProp 𝕄 := posC (F := F) c (.recv r (par h)) (h / 2)
abbrev oPos (c : Dev nD) (r : Fin 4) (k : ℕ) : sProp 𝕄 := posC (F := F) c (.out r) k
abbrev rdr (c : Dev nD) (r : Fin 4) (k : ℕ) : sProp 𝕄 := readerAt ES (c, r, par k) (k / 2 + 1)

/-- What is still owed, whatever waits were made. -/
def Ow (c : Dev nD) (l : List Pay) : sProp 𝕄 := iprop(∃ W, owes (c : Thread nD τ) (owed c l) W)

def sendRes (c : Dev nD) (r : Fin 4) (h : ℕ) : sProp 𝕄 :=
  iprop(dutyTok ER (kcell c (.send r (par h))) (h / 2) 0 ∗ dutyTok ER (kcell (toD r c) (.recv r (par h))) (h / 2) 0
    ∗ writeTok ES (toD r c, r, par h) (h / 2 + 1))
def recvRes (c : Dev nD) (r : Fin 4) (h : ℕ) : sProp 𝕄 := cred (tallyAt (kcell c (.recv r (par h))) h N)
def sigRes (c : Dev nD) (r : Fin 4) (k : ℕ) : sProp 𝕄 := dutyTok ER (kcell (fromD r c) (.cred r)) 0 k
def cwRes (c : Dev nD) (r : Fin 4) (k : ℕ) : sProp 𝕄 := cred (tallyAt (kcell c (.cred r)) k 1)
def anyO (c : Dev nD) (r : Fin 4) (k : ℕ) : sProp 𝕄 := iprop(∃ X, owns (c : Thread nD τ) (outM c r (f8 k)) fullShare X)
def outRes (c : Dev nD) (r : Fin 4) (k : ℕ) : sProp 𝕄 := iprop(dutyTok ER (kcell c (.out r)) k 0 ∗ anyO c r k)
/-- A message, or a copy out, on its way. -/
abbrev sCred (c : Dev nD) (r : Fin 4) (h : ℕ) : sProp 𝕄 := cred (tallyAt (kcell c (.send r (par h))) 0 N)
abbrev oCred (c : Dev nD) (r : Fin 4) : sProp 𝕄 := cred (tallyAt (kcell c (.out r)) 0 NO)

variable (I : Inp F) (K : Dev nD × Ck → ℕ) (ι : Key → ℕ)

/-- How far the device has counted the signals from the next device, and what they said. -/
def cPos (c : Dev nD) (r : Fin 4) (n : ℕ) : sProp 𝕄 :=
  iprop(∃ S : Finset ℕ, ⌜S ⊆ Finset.range 12 ∧ n ≤ S.card⌝ ∗ atPos ER (kcell c (.cred r)) 0 S n
    ∗ bigSep S (fun k => payK I c (.cred r) 0 k))

variable (c : Dev nD) (Q : PUnit.{1} → sProp (MT nD τ sig ℕ (Elt F) ℕ UU ℕ)) (s : F .f32) (rest : List Op) (l : List Pay)

/-- The payments of a list are all above a level. -/
abbrev Above (b : ℕ) (l : List Pay) : Prop := ∀ p ∈ l, p.idx < 14 ∧ b < p.lev

/-- A wait that ends a round of one duty. -/
theorem wp_wait1 (k : Ck) (n i : ℕ) (hi : i < 14) (hl : Above (levK k i) l) (hd : dutyK k n = {0})
    {w : TpuEff nD τ sig (Elt F) Λ₀ .tc PUnit}
    (hw : ∀ K' : PUnit.{1} → sProp 𝕄, wpE (defs₀ (F := F)) 𝒱₀ (c : Thread nD τ) none Set.univ w K' = waitSpec (c : Thread nD τ) Set.univ (csem k) (amtK k) K')
    {kk : PUnit → P F PUnit} :
    iprop(recs I K ι ∗ cred (tallyAt (kcell c k) i (amtK k)) ∗ Ow c l ∗ posC c k n)
      ⊢ iprop(((Ow c l ∗ posC c k (n + 1) ∗ payK I c k n 0) -∗ WP c (kk ⟨⟩) Q) -∗ WP c (.op w kk) Q) := by
  unfold Ow posC
  iintro ⟨#HR, Hc, ⟨%W, HO⟩, ⟨Hat, -⟩⟩ Hk
  ihave #Hlev := (recs_lev I K ι) $$ HR
  ihave #Hi := (recs_cell I K ι c k) $$ HR
  iapply (Rounds.wp_wait_rest_token 𝒱₀ ER (Rd I) (c : Thread nD τ) none (κ := K (c, k)) hw (Set.mem_univ _) i
    (O := owed c l) (W := W) (R := n) (m := 0) (T := ∅)
    (by rw [Nat.zero_add]; refine Eq.symm ((Rd_expect I c k n).trans ?_); rw [hd, Finset.card_singleton, Nat.one_mul])) $$ [Hc HO Hat]
  · isplitr; · iexact Hi
    isplitl [Hc]; · iexact Hc
    isplitl [HO]; · iexact HO
    isplitr
    · iapply (mayWait_cell c k i hi l hl); iexact Hlev
    iexact Hat
  iintro ⟨HO, Hat, Hr, Hp⟩
  ihave Hp := (Entails.of_eq (Rd_rest I c k n hd)) $$ Hp
  iapply Hk
  isplitl [HO]; · iexists _; iexact HO
  iframe Hat Hr Hp

theorem duty_recv {h : ℕ} (r : Fin 4) (hh : h < 14) : dutyK (.recv r (par h)) (h / 2) = {0} := if_pos (by omega)
theorem duty_send {h : ℕ} (r : Fin 4) (hh : h < 14) : dutyK (.send r (par h)) (h / 2) = {0} := if_pos (by omega)
theorem duty_out {k : ℕ} (r : Fin 4) (hk : k < 8) : dutyK (.out r) k = {0} := if_pos hk

theorem payK_recv (r : Fin 4) (h : ℕ) : payK I c (.recv r (par h)) (h / 2) 0 = recvP I c r h := by
  show recvP I c r (2 * (h / 2) + (par h).val) = _
  rw [half_par]
theorem payK_send (r : Fin 4) (h : ℕ) : payK I c (.send r (par h)) (h / 2) 0 = backP I c r h := by
  show backP I c r (2 * (h / 2) + (par h).val) = _
  rw [half_par]
theorem rPos_next (r : Fin 4) (h : ℕ) : posC (F := F) c (.recv r (par h)) (h / 2 + 1) = rPos c r (h + 2) := by
  unfold rPos; rw [par_add_two, half_add_two]
theorem sPos_next (r : Fin 4) (h : ℕ) : posC (F := F) c (.send r (par h)) (h / 2 + 1) = sPos c r (h + 2) := by
  unfold sPos; rw [par_add_two, half_add_two]

/-- The wait for message `h`. -/
theorem wp_recv (r : Fin 4) (h : ℕ) (hh : h < 14) (hl : Above (levK (.recv r (par h)) h) l)
    {w : TpuEff nD τ sig (Elt F) Λ₀ .tc PUnit}
    (hw : ∀ K' : PUnit.{1} → sProp 𝕄, wpE (defs₀ (F := F)) 𝒱₀ (c : Thread nD τ) none Set.univ w K' = waitSpec (c : Thread nD τ) Set.univ (csem (.recv r (par h))) N K')
    {kk : PUnit → P F PUnit} :
    iprop(recs I K ι ∗ recvRes c r h ∗ Ow c l ∗ rPos c r h)
      ⊢ iprop(((Ow c l ∗ rPos c r (h + 2) ∗ recvP I c r h) -∗ WP c (kk ⟨⟩) Q) -∗ WP c (.op w kk) Q) := by
  rw [← rPos_next, ← payK_recv]
  exact wp_wait1 I K ι c Q l (.recv r (par h)) (h / 2) h hh hl (duty_recv r hh) hw

/-- The wait until message `h` has left. -/
theorem wp_sent (r : Fin 4) (h : ℕ) (hh : h < 14) (hl : Above 0 l)
    {w : TpuEff nD τ sig (Elt F) Λ₀ .tc PUnit}
    (hw : ∀ K' : PUnit.{1} → sProp 𝕄, wpE (defs₀ (F := F)) 𝒱₀ (c : Thread nD τ) none Set.univ w K' = waitSpec (c : Thread nD τ) Set.univ (csem (.send r (par h))) N K')
    {kk : PUnit → P F PUnit} :
    iprop(recs I K ι ∗ sCred c r h ∗ Ow c l ∗ sPos c r h)
      ⊢ iprop(((Ow c l ∗ sPos c r (h + 2) ∗ backP I c r h) -∗ WP c (kk ⟨⟩) Q) -∗ WP c (.op w kk) Q) := by
  rw [← sPos_next, ← payK_send]
  exact wp_wait1 I K ι c Q l (.send r (par h)) (h / 2) 0 (by decide) hl (duty_send r hh) hw

theorem wp_recvS (r : Fin 4) (h : ℕ) (hh : h < 14) (hl : Above (levK (.recv r (par h)) h) l) :
    iprop(recs I K ι ∗ recvRes c r h ∗ Ow c l ∗ rPos c r h)
      ⊢ iprop(((Ow c l ∗ rPos c r (h + 2) ∗ recvP I c r h) -∗ WP c (run c s rest) Q) -∗ WP c (run c s (.recvS r h :: rest)) Q) := by
  exact wp_recv I K ι c Q l r h hh hl (kk := fun _ => run c s rest) (fun K' => (wpE_waitDma2_eq 𝒱₀ (c : Thread nD τ) none Set.univ K').trans (by rw [cred_rbuf]; rfl))
theorem wp_recvR (r : Fin 4) (h : ℕ) (hh : h < 14) (hl : Above (levK (.recv r (par h)) h) l) :
    iprop(recs I K ι ∗ recvRes c r h ∗ Ow c l ∗ rPos c r h)
      ⊢ iprop(((Ow c l ∗ rPos c r (h + 2) ∗ recvP I c r h) -∗ WP c (run c s rest) Q) -∗ WP c (run c s (.recvR r h :: rest)) Q) := by
  exact wp_recv I K ι c Q l r h hh hl (kk := fun _ => run c s rest) (fun K' => (wpE_waitDma2_eq 𝒱₀ (c : Thread nD τ) none Set.univ K').trans (by rw [cred_rbuf]; rfl))
theorem wp_sentS (r : Fin 4) (h : ℕ) (hh : h < 14) (hl : Above 0 l) :
    iprop(recs I K ι ∗ sCred c r h ∗ Ow c l ∗ sPos c r h)
      ⊢ iprop(((Ow c l ∗ sPos c r (h + 2) ∗ backP I c r h) -∗ WP c (run c s rest) Q) -∗ WP c (run c s (.sentS r h :: rest)) Q) := by
  exact wp_sent I K ι c Q l r h hh hl (kk := fun _ => run c s rest) (fun K' => (wpE_waitDma2_eq 𝒱₀ (c : Thread nD τ) none Set.univ K').trans (by rw [cred_sbuf]; rfl))
theorem wp_sentR (r : Fin 4) (h : ℕ) (hh : h < 14) (hl : Above 0 l) :
    iprop(recs I K ι ∗ sCred c r h ∗ Ow c l ∗ sPos c r h)
      ⊢ iprop(((Ow c l ∗ sPos c r (h + 2) ∗ backP I c r h) -∗ WP c (run c s rest) Q) -∗ WP c (run c s (.sentR r h :: rest)) Q) := by
  exact wp_sent I K ι c Q l r h hh hl (kk := fun _ => run c s rest) (fun K' => (wpE_waitDma2_eq 𝒱₀ (c : Thread nD τ) none Set.univ K').trans (by rw [cred_rbuf]; rfl))
/-- The wait until the `k`-th copy out is through. -/
theorem wp_outWait (r : Fin 4) (k : ℕ) (kf : Fin 8) (hk : k < 8) (hl : Above 0 l) :
    iprop(recs I K ι ∗ oCred c r ∗ Ow c l ∗ oPos c r k)
      ⊢ iprop(((Ow c l ∗ oPos c r (k + 1) ∗ outP I c r k) -∗ WP c (run c s rest) Q) -∗ WP c (run c s (.outWait r kf :: rest)) Q) := by
  exact wp_wait1 I K ι c Q l (.out r) k 0 (by decide) hl (duty_out r hk) (kk := fun _ => run c s rest)
    (fun K' => (wpE_waitDma2_eq 𝒱₀ (c : Thread nD τ) none Set.univ K').trans (by rw [cred_out]; rfl))

/-- The `k`-th copy out of the accumulator's page. -/
theorem wp_outCopy (r : Fin 4) (k : ℕ) (hk : k < 8) {hsrc hdst hsem} {kk : PUnit → P F PUnit} :
    iprop(recs I K ι ∗ outRes c r k ∗ reached ER (kcell c (.out r)) k ∗ accO c r (oV I r k c))
      ⊢ iprop((oCred c r -∗ WP c (kk ⟨⟩) Q)
          -∗ WP c (.op (.enqueueDma (accM r) (.here (outM c r (f8 k))) (.dma (outS r)) hsrc hdst hsem) kk) Q) := by
  unfold outRes anyO accO
  iintro ⟨#HR, ⟨Ht, ⟨%Y, Ho⟩⟩, #Hr, Ha⟩ Hk
  ihave #Hi := (recs_cell I K ι c (.out r)) $$ HR
  unfold owns
  icases Ho with ⟨%fd, -, Ho⟩
  icases Ha with ⟨%fs, %hfs, Ha⟩
  iapply (Rounds.wp_copy_pointsTo 𝒱₀ ER (Rd I) (c : Thread nD τ) none (src := accM r) (dst := outM c r (f8 k)) (sem := csem (.out r))
    (κ := K (c, .out r)) (r := k) (d := 0) (q := fullShare) (fs := fs) (fd := fd)
    (by rw [show (((c : Dev nD) : Thread nD τ), csem (.out r)) = kcell c (.out r) from rfl, Rd_duties, duty_out r hk]; exact Finset.mem_singleton_self _)
    0 NO ((View.amount_dma _ _).trans (cred_out c r (f8 k))) (Rd_amount I c (.out r) k 0)
    (by
      rw [show (Rd I).payload (((c : Dev nD) : Thread nD τ), csem (.out r)) k 0 = outP I c r k from Rd_payload I c (.out r) k 0]
      unfold outP anyA
      iintro ⟨Hd, Hs⟩
      isplitl [Hs]
      · iexists (oV I r k c); unfold owns; iexists fs; isplitr; · ipureintro; exact hfs
        iexact Hs
      · unfold owns; iexists _
        isplitr [Hd]
        on_goal 2 => iexact Hd
        ipureintro
        rw [View.read_write_univ]; exact hfs)) $$ [Ht Ho Ha]
  · isplitr; · iexact Hi
    isplitl [Ha]; · iexact Ha
    isplitl [Ho]; · iexact Ho
    isplitl [Ht]; · iexact Ht
    iexact Hr
  iexact Hk

theorem wp_outStart (r : Fin 4) (k : ℕ) (kf : Fin 8) (hf : kf = f8 k) (hk : k < 8) :
    iprop(recs I K ι ∗ outRes c r k ∗ reached ER (kcell c (.out r)) k ∗ accO c r (oV I r k c))
      ⊢ iprop((oCred c r -∗ WP c (run c s rest) Q) -∗ WP c (run c s (.outStart r kf :: rest)) Q) := by
  subst hf
  exact wp_outCopy I K ι c Q r k hk (kk := fun _ => run c s rest)

end Cert.KernelIdeal.Body

end
-- ==== Proof.KernelIdeal.Talk.lean ====
/- The sends of a message, the signals that a slot is free, the waits for those signals, and the step that finishes
   a device's own block. -/
module

public import proofs.«01_k».proof.Proof.KernelIdeal.Steps

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (K : Dev nD × Ck → ℕ) (ι : Key → ℕ)
variable (c : Dev nD) (Q : PUnit.{1} → sProp (MT nD τ sig ℕ (Elt F) ℕ UU ℕ)) (s : F .f32) (rest : List Op) (l : List Pay)

/-- Message `h`, from a page or slot that holds it, into the next device's slot. -/
theorem wp_send (r : Fin 4) (h : ℕ) (hh : h < 14) (src : Memref sig .tc .vmem S512x2048 .bf16) (q : PosShare TreeShare)
    (hb : (owns (c : Thread nD τ) src q (mV I r h c) : sProp 𝕄) ⊢ backP I c r h)
    {hsc hsrc hdst hsem} {kk : PUnit → P F PUnit} :
    iprop(recs I K ι ∗ avail (toD r c) r h ∗ sendRes c r h ∗ Ow c (.send r h :: l) ∗ reached ER (kcell c (.send r (par h))) (h / 2)
        ∗ owns (c : Thread nD τ) src q (mV I r h c))
      ⊢ iprop(((Ow c l ∗ sCred c r h) -∗ WP c (kk ⟨⟩) Q)
          -∗ WP c (.op (.enqueueDma src (.remote (Dev.tc (toD r c)) (rbufM r (par h)) (.dma (sendS r (par h))) hsc)
              (.dma (recvS r (par h))) hsrc hdst hsem) kk) Q) := by
  unfold avail sendRes Ow
  iintro ⟨#HR, ⟨#Hrel, #HrV⟩, ⟨Ht1, Ht2, Hw⟩, ⟨%W, HO⟩, #HrS, Hs⟩ Hk
  ihave #Hi1 := (recs_cell I K ι c (.send r (par h))) $$ HR
  ihave #Hi2 := (recs_cell I K ι (toD r c) (.recv r (par h))) $$ HR
  ihave #Hi3 := (recs_slot I K ι (toD r c, r, par h)) $$ HR
  imod (slot_take ES (Set.mem_univ _) (h / 2 + 1)) $$ [Hw] with Hd
  · isplitr; · iexact Hi3
    isplitr; · iexact Hrel
    iexact Hw
  unfold slotP slot
  icases Hd with ⟨%fd, Hd⟩
  have hb' : ∀ fs : Buf (Elt F) (src.view.loc (c : Thread nD τ)), src.view.read (Elt F) fs = mV I r h c →
      ((src.view.loc (c : Thread nD τ) ↦[src.view.set]{q} fs) : sProp 𝕄) ⊢ backP I c r h := fun fs hfs => by
    refine BIBase.Entails.trans ?_ hb
    rw [← hfs]
    exact owns_intro (c : Thread nD τ) src q fs
  unfold owns
  icases Hs with ⟨%fs, %hfs, Hs⟩
  iapply (Rounds.wp_send_pointsTo 𝒱₀ ER (Rd I) (c : Thread nD τ) none (c' := (Dev.tc (toD r c) : Thread nD τ)) (src := src)
    (dst := rbufM r (par h)) (sS := csem (.send r (par h))) (sem := csem (.recv r (par h)))
    (κ₁ := K (c, .send r (par h))) (κ₂ := K (toD r c, .recv r (par h)))
    (r₁ := h / 2) (r₂ := h / 2) (d₁ := 0) (d₂ := 0) (q := q) (fs := fs) (fd := fd)
    (by rw [show (((c : Dev nD) : Thread nD τ), csem (.send r (par h))) = kcell c (.send r (par h)) from rfl, Rd_duties, duty_send r hh]
        exact Finset.mem_singleton_self _)
    (by rw [show ((Dev.tc (toD r c) : Thread nD τ), csem (.recv r (par h))) = kcell (toD r c) (.recv r (par h)) from rfl, Rd_duties, duty_recv r hh]
        exact Finset.mem_singleton_self _)
    h 0 N ((View.amount_dma _ _).trans (cred_rbuf r (par h)))
    (Rd_amount I c (.send r (par h)) (h / 2) 0) (Rd_amount I (toD r c) (.recv r (par h)) (h / 2) 0)
    (owed c l) rfl (W := W)
    (by
      rw [show (Rd I).payload (((c : Dev nD) : Thread nD τ), csem (.send r (par h))) (h / 2) 0 = backP I c r h from
        (Rd_payload I c (.send r (par h)) (h / 2) 0).trans (payK_send I c r h)]
      exact hb' fs hfs)
    (by
      rw [show (Rd I).payload ((Dev.tc (toD r c) : Thread nD τ), csem (.recv r (par h))) (h / 2) 0 = recvP I (toD r c) r h from
        (Rd_payload I (toD r c) (.recv r (par h)) (h / 2) 0).trans (payK_recv I (toD r c) r h)]
      unfold recvP
      rw [from_to, ← hfs]
      refine (owns_intro (toD r c : Thread nD τ) (rbufM r (par h)) fullShare _).trans (Entails.of_eq ?_)
      rw [View.read_write_univ])) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact HrS
    isplitl [Ht2]; · iexact Ht2
    iexact HrV
  iintro ⟨Hc, HO⟩
  iapply Hk
  isplitl [HO]; · iexists W; iexact HO
  iexact Hc

/-- A message out of the send buffer's page (`h` up to 7). -/
theorem wp_sendS (r : Fin 4) (h : ℕ) (hh : h ≤ 7) :
    iprop(recs I K ι ∗ avail (toD r c) r h ∗ sendRes c r h ∗ Ow c (.send r h :: l) ∗ reached ER (kcell c (.send r (par h))) (h / 2)
        ∗ sbufO c r (mV I r h c))
      ⊢ iprop(((Ow c l ∗ sCred c r h) -∗ WP c (run c s rest) Q) -∗ WP c (run c s (.sendS r h :: rest)) Q) :=
  wp_send I K ι c Q l r h (by omega) (sbufM r) fullShare (by
    unfold backP; rw [if_pos hh]; unfold anyS
    iintro H; iexists _; iexact H) (kk := fun _ => run c s rest)

/-- A message passed on out of the slot that it arrived in (`h` from 8). -/
theorem wp_sendR (r : Fin 4) (h : ℕ) (h8 : 8 ≤ h) (hh : h < 14) :
    iprop(recs I K ι ∗ avail (toD r c) r h ∗ sendRes c r h ∗ Ow c (.send r h :: l) ∗ reached ER (kcell c (.send r (par h))) (h / 2)
        ∗ rbufO c r (par (h + 1)) fullShare.left (mV I r (h - 1) (fromD r c)))
      ⊢ iprop(((Ow c l ∗ sCred c r h) -∗ WP c (run c s rest) Q) -∗ WP c (run c s (.sendR r h :: rest)) Q) := by
  have e : mV I r (h - 1) (fromD r c) = mV I r h c := by
    obtain ⟨h, rfl⟩ : ∃ k, h = k + 1 := ⟨h - 1, by omega⟩
    simp only [mV, Nat.add_sub_cancel]
    rw [if_neg (by omega), if_neg (by omega)]
  have hb : (owns (c : Thread nD τ) (rbufM r (par (h + 1))) fullShare.left (mV I r h c) : sProp 𝕄) ⊢ backP I c r h := by
    unfold backP; rw [if_neg (by omega), e]
  rw [e]
  exact wp_send I K ι c Q l r h hh (rbufM r (par (h + 1))) fullShare.left hb (kk := fun _ => run c s rest)

theorem slotP_excl (k : Key) : iprop(slotP k ∗ slotP k) ⊢ (False : sProp 𝕄) :=
  slot_slot_false ⟨_, View.emb_mem_set _ (fun a => ⟨0, by revert a; decide⟩)⟩

/-- The `k`-th signal that a slot is free: the slot of message `k`, read to its end, goes back to its writer. -/
theorem wp_sig (r : Fin 4) (k : ℕ) (hk : k < 12) :
    iprop(recs I K ι ∗ sigRes c r k ∗ Ow c (.crd r k :: l) ∗ rdr c r k ∗ anyR c r (par k) ∗ avail c r (k + 1)
        ∗ reached ER (kcell c (.recv r (par (k + 2)))) ((k + 2) / 2))
      ⊢ iprop(((Ow c l ∗ rdr c r (k + 2) ∗ avail c r (k + 2)) -∗ WP c (run c s rest) Q) -∗ WP c (run c s (.sig r :: rest)) Q) := by
  unfold sigRes Ow anyR rdr
  iintro ⟨#HR, Ht, ⟨%W, HO⟩, Hrd, ⟨%X, Hs⟩, #Hav, #HrV⟩ Hk
  ihave #Hi1 := (recs_cell I K ι (fromD r c) (.cred r)) $$ HR
  ihave #Hr0 := (recs_reached I K ι (fromD r c) (.cred r)) $$ HR
  ihave #Hi3 := (recs_slot I K ι (c, r, par k)) $$ HR
  unfold owns
  icases Hs with ⟨%f, -, Hs⟩
  imod (slot_release ES (Set.mem_univ _) (slotP_excl (c, r, par k)) (k / 2 + 1)) $$ [Hrd Hs] with ⟨Hrd, #Hrel⟩
  · isplitr; · iexact Hi3
    isplitl [Hrd]; · iexact Hrd
    unfold slotP slot; iexists f; iexact Hs
  have e1 : avail (F := F) c r (k + 2) = iprop(released ES (c, r, par k) (k / 2 + 1 + 1) ∗ reached ER (kcell c (.recv r (par (k + 2)))) ((k + 2) / 2)) := by
    unfold avail; rw [half_add_two, par_add_two]
  have e2 : (readerAt ES (c, r, par (k + 2)) ((k + 2) / 2 + 1) : sProp 𝕄) = readerAt ES (c, r, par k) (k / 2 + 1 + 1) := by
    rw [half_add_two, par_add_two]
  ihave #Hav2 : avail (F := F) c r (k + 2) $$ []
  · rw [e1]; isplitr
    · iexact Hrel
    iexact HrV
  iapply (Rounds.wp_signal 𝒱₀ ER (Rd I) (c : Thread nD τ) none (dst := ((fromD r c : Dev nD) : Thread nD τ)) (sem := credS r)
      (κ := K (fromD r c, .cred r)) (r := 0) (d := k) (k' := 1)
      (by rw [show (((fromD r c : Dev nD) : Thread nD τ), SemLoc.reg (credS r)) = kcell (fromD r c) (.cred r) from rfl, Rd_duties]
          exact Finset.mem_range.mpr hk)
      (Rd_amount I (fromD r c) (.cred r) 0 k) k (owed c l) rfl (W := W) (k := fun _ => run c s rest)) $$ [HO Ht]
  · isplitr; · iexact Hi1
    isplitl [HO]; · iexact HO
    isplitl [Ht]; · iexact Ht
    isplitr
    · rw [show (Rd I).payload (((fromD r c : Dev nD) : Thread nD τ), SemLoc.reg (credS r)) 0 k = payK I (fromD r c) (.cred r) 0 k from
        Rd_payload I (fromD r c) (.cred r) 0 k]
      unfold payK
      dsimp only
      rw [to_from]
      isplitr
      · iexact Hav2
      iexact Hav
    iexact Hr0
  iintro HO
  iapply Hk
  isplitl [HO]; · iexists W; iexact HO
  rw [e2]
  isplitl [Hrd]; · iexact Hrd
  iexact Hav2

theorem avail_mono (e : Dev nD) (r : Fin 4) {m m' : ℕ} (hp : par m = par m') (hm : m ≤ m') : avail (F := F) e r m' ⊢ avail e r m := by
  unfold avail; rw [hp]
  exact BIClass.sep_mono (released_mono ES (by omega)) (reached_mono ER (by omega))

/-- A signal that came `k'`-th, `k'` not before `n`, tells that the slot of message `n + 2` is free. -/
theorem avail_of_later (r : Fin 4) {n k' : ℕ} (h : n ≤ k') : payK I c (.cred r) 0 k' ⊢ avail (F := F) (toD r c) r (n + 2) := by
  unfold payK
  dsimp only
  by_cases hp : k' % 2 = n % 2
  · refine BIBase.Entails.trans ?_ (avail_mono (toD r c) r (m' := k' + 2) (Fin.ext (by show (n + 2) % 2 = (k' + 2) % 2; omega)) (by omega))
    iintro ⟨H, -⟩; iexact H
  · refine BIBase.Entails.trans ?_ (avail_mono (toD r c) r (m' := k' + 1) (Fin.ext (by show (n + 2) % 2 = (k' + 1) % 2; omega)) (by omega))
    iintro ⟨-, H⟩; iexact H

instance payK_cred_persistent (r : Fin 4) (k : ℕ) : BI.Persistent (payK I c (.cred r) 0 k) := by unfold payK; infer_instance

theorem bigSep_at {α : Type} [DecidableEq α] {S : Finset α} {i : α} (hi : i ∈ S) {Φ : α → sProp 𝕄} : (bigSep S Φ : sProp 𝕄) ⊢ Φ i := bigSep_elim hi

/-- The wait for one more signal from the next device. -/
theorem wp_cwait (r : Fin 4) (n : ℕ) (hn : n < 12) (hl : Above (levK (.cred r) n) l) :
    iprop(recs I K ι ∗ cwRes c r n ∗ Ow c l ∗ cPos I c r n)
      ⊢ iprop(((Ow c l ∗ cPos I c r (n + 1) ∗ avail (toD r c) r (n + 2)) -∗ WP c (run c s rest) Q) -∗ WP c (run c s (.cwait r :: rest)) Q) := by
  unfold Ow cPos cwRes
  iintro ⟨#HR, Hc, ⟨%W, HO⟩, ⟨%S, ⟨%hS, Hat, #Hp⟩⟩⟩ Hk
  ihave #Hlev := (recs_lev I K ι) $$ HR
  ihave #Hi := (recs_cell I K ι c (.cred r)) $$ HR
  have hd : (Rd I).duties (kcell c (.cred r)) 0 = Finset.range 12 := Rd_duties I c (.cred r) 0
  iapply (Rounds.wp_wait 𝒱₀ ER (Rd I) (c : Thread nD τ) none (κ := K (c, .cred r)) (sm := csem (.cred r)) (k' := 1)
    (wpE_semWait_eq 𝒱₀ (c : Thread nD τ) none Set.univ) (Set.mem_univ _) (cr := Finsupp.single n 1) {(csem (.cred r), n)}
    (O := owed c l) (W := W) (R := 0) (m := n) (T := S) (k := fun _ => run c s rest)
    (Util.total_single _ _) (image_single_subset (csem (.cred r)) n 1)) $$ [Hc HO Hat]
  · isplitr; · iexact Hi
    isplitl [Hc]; · iexact Hc
    isplitl [HO]; · iexact HO
    isplitr
    · iapply (mayWait_cell c (.cred r) n (by omega) l hl); iexact Hlev
    iexact Hat
  iintro %S' ⟨%hS', HO, Hat, Hp1⟩
  ihave #Hp' := (Entails.of_eq (congrArg (bigSep (S' \ S)) (funext fun d => Rd_payload I c (.cred r) 0 d))) $$ Hp1
  rw [show (((c : Dev nD) : Thread nD τ), csem (.cred r)) = kcell c (.cred r) from rfl, hd] at hS'
  have he : (Rd I).expect (kcell c (.cred r)) 0 = 12 := (Rd_expect I c (.cred r) 0).trans rfl
  have hcard : n + 1 ≤ S'.card := by
    have h1 := hS'.2.2
    rw [he, Finset.card_sdiff_of_subset hS'.2.1, Finset.card_range] at h1
    have h2 := Finset.card_le_card hS'.2.1
    rw [Finset.card_range] at h2
    omega
  ihave #Hall : bigSep S' (fun k => payK I c (.cred r) 0 k) $$ []
  · have e : bigSep S' (fun k => payK I c (.cred r) 0 k)
        = iprop(bigSep S (fun k => payK I c (.cred r) 0 k) ∗ bigSep (S' \ S) (fun k => payK I c (.cred r) 0 k)) :=
      (congrArg (fun z => bigSep z (fun k => payK I c (.cred r) 0 k)) (Finset.union_sdiff_of_subset hS'.1)).symm.trans
        (bigSep_union Finset.disjoint_sdiff)
    rw [e]
    isplitr
    · iexact Hp
    iexact Hp'
  obtain ⟨k', hk', hle⟩ : ∃ k' ∈ S', n ≤ k' := by
    by_contra hc
    push Not at hc
    have := Finset.card_le_card (fun x hx => Finset.mem_range.mpr (hc x hx) : S' ⊆ Finset.range n)
    rw [Finset.card_range] at this
    omega
  ihave #Hav : avail (F := F) (toD r c) r (n + 2) $$ []
  · iapply (avail_of_later I c r hle)
    iapply (bigSep_at (Φ := fun k => payK I c (.cred r) 0 k) hk')
    iexact Hall
  iapply Hk
  isplitl [HO]; · iexists _; iexact HO
  isplitl [Hat]
  · iexists S'
    isplitr; · ipureintro; exact ⟨hS'.2.1, hcard⟩
    isplitl [Hat]; · iexact Hat
    iexact Hall
  iexact Hav

/-- The step that finishes a device's own block: scaled, copied out, and put into the send buffer's page. -/
theorem wp_fin (r : Fin 4) :
    iprop(recs I K ι ∗ outRes c r 0 ∗ reached ER (kcell c (.out r)) 0 ∗ accO c r (gV I r 7 c)
        ∗ rbufO c r (par 6) fullShare (mV I r 6 (fromD r c)) ∗ anyS c r)
      ⊢ iprop(((oCred c r ∗ rbufO c r (par 6) fullShare (mV I r 6 (fromD r c)) ∗ sbufO c r (mV I r 7 c)) -∗ WP c (run c (I.s c) rest) Q)
          -∗ WP c (run c (I.s c) (.fin r :: rest)) Q) := by
  simp only [run, opProg, Prog.lift, Prog.bind_op, Prog.bind_ret, Prog.pure_eq_ret]
  unfold anyS
  iintro ⟨#HR, Hres, #Hr0, Ha, Hr, ⟨%Z, Hs⟩⟩ Hk
  iapply (ld_acc c Q r _) $$ Ha; iintro Ha
  iapply (ld_rbuf c Q r (par 6) fullShare _) $$ Hr; iintro Hr
  iapply (ld_acc c Q r _) $$ Ha; iintro Ha
  iapply (st_acc c Q r _) $$ Ha; iintro Ha
  iapply (wp_outCopy I K ι c Q r 0 (by decide)) $$ [Hres Ha]
  · isplitr; · iexact HR
    isplitl [Hres]; · iexact Hres
    isplitr; · iexact Hr0
    iexact Ha
  iintro Hc
  iapply (ld_sbuf c Q r _) $$ Hs; iintro Hs
  iapply (st_sbuf c Q r _) $$ Hs; iintro Hs
  iapply Hk
  iframe Hc Hr Hs

end Cert.KernelIdeal.Body

end
-- ==== Proof.KernelIdeal.Reduce.lean ====
/- The body ring by ring: what a device holds of a ring before each step, and each step's block of operations from
   the one to the next. -/
module

public import proofs.«01_k».proof.Proof.KernelIdeal.Talk

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- The first of a run of numbered resources. -/
theorem from_take (f : ℕ → sProp 𝕄) {a b : ℕ} (h : a < b) :
    bigSep (Finset.Ico a b) f = iprop(f a ∗ bigSep (Finset.Ico (a + 1) b) f) := by
  have e : Finset.Ico a b = insert a (Finset.Ico (a + 1) b) := by
    ext x; simp only [Finset.mem_insert, Finset.mem_Ico]; omega
  rw [e, bigSep_insert (by simp)]; rfl
theorem upto_add (f : ℕ → sProp 𝕄) (n : ℕ) :
    bigSep (Finset.range (n + 1)) f = iprop(f n ∗ bigSep (Finset.range n) f) := by
  rw [Finset.range_add_one, bigSep_insert Finset.notMem_range_self]; rfl

variable (I : Inp F) (K : Dev nD × Ck → ℕ) (ι : Key → ℕ) (c : Dev nD)

/-! ## Triples of a list of operations -/

/-- From the payments `l` and the holdings `A` the operations lead to the payments `l'` and the holdings `B`. -/
def Tr (a : List Op) (l l' : List Pay) (A B : sProp 𝕄) : Prop :=
  ∀ (rest : List Op) (Q : PUnit.{1} → sProp 𝕄), iprop(recs I K ι ∗ Ow c l ∗ A)
    ⊢ iprop(((Ow c l' ∗ B) -∗ WP c (run c (I.s c) rest) Q) -∗ WP c (run c (I.s c) (a ++ rest)) Q)

variable {I K ι c}

theorem Tr.seq {a b : List Op} {l l' l'' : List Pay} {A B C : sProp 𝕄} (h1 : Tr I K ι c a l l' A B) (h2 : Tr I K ι c b l' l'' B C) :
    Tr I K ι c (a ++ b) l l'' A C := fun rest Q => by
  rw [List.append_assoc]
  iintro ⟨#HR, HO, HA⟩ Hk
  iapply (h1 (b ++ rest) Q) $$ [HO HA]
  · iframe HR HO HA
  iintro ⟨HO, HB⟩
  iapply (h2 rest Q) $$ [HO HB]
  · iframe HR HO HB
  iexact Hk

theorem Tr.conseq {a : List Op} {l l' : List Pay} {A B A' B' : sProp 𝕄} (h : Tr I K ι c a l l' A B) (hA : A' ⊢ A) (hB : B ⊢ B') :
    Tr I K ι c a l l' A' B' := fun rest Q => by
  iintro ⟨#HR, HO, HA⟩ Hk
  iapply (h rest Q) $$ [HO HA]
  · isplitr; · iexact HR
    isplitl [HO]; · iexact HO
    iapply hA; iexact HA
  iintro ⟨HO, HB⟩
  iapply Hk
  isplitl [HO]; · iexact HO
  iapply hB; iexact HB

/-- Four rings' holdings. -/
abbrev Four (A : Fin 4 → sProp 𝕄) : sProp 𝕄 := iprop(A 0 ∗ A 1 ∗ A 2 ∗ A 3)

/-- A block of every ring after the other, from what each ring has to what each comes to have. -/
theorem Tr.four (blk : Fin 4 → List Op) (pay : Fin 4 → List Pay) (A B : Fin 4 → sProp 𝕄) (E : sProp 𝕄) (l : List Pay)
    (ok : Fin 4 → List Pay → Prop)
    (H : ∀ r l', ok r l' → Tr I K ι c (blk r) (pay r ++ l') l' iprop(E ∗ A r) iprop(E ∗ B r))
    (h3 : ok 3 l) (h2 : ok 2 (pay 3 ++ l)) (h1 : ok 1 (pay 2 ++ (pay 3 ++ l))) (h0 : ok 0 (pay 1 ++ (pay 2 ++ (pay 3 ++ l)))) :
    Tr I K ι c (rings.flatMap blk) (rings.flatMap pay ++ l) l iprop(E ∗ Four A) iprop(E ∗ Four B) := fun rest Q => by
  have e1 : rings.flatMap blk ++ rest = blk 0 ++ (blk 1 ++ (blk 2 ++ (blk 3 ++ rest))) := by
    simp only [rings, List.flatMap_cons, List.flatMap_nil, List.append_assoc, List.append_nil, List.nil_append]
  have e2 : rings.flatMap pay ++ l = pay 0 ++ (pay 1 ++ (pay 2 ++ (pay 3 ++ l))) := by
    simp only [rings, List.flatMap_cons, List.flatMap_nil, List.append_assoc, List.append_nil, List.nil_append]
  rw [e1, e2]
  iintro ⟨#HR, HO, HE, H0, H1, H2, H3⟩ Hk
  iapply (H 0 _ h0 _ Q) $$ [HO HE H0]
  · iframe HR HO HE H0
  iintro ⟨HO, HE, H0⟩
  iapply (H 1 _ h1 _ Q) $$ [HO HE H1]
  · iframe HR HO HE H1
  iintro ⟨HO, HE, H1⟩
  iapply (H 2 _ h2 _ Q) $$ [HO HE H2]
  · iframe HR HO HE H2
  iintro ⟨HO, HE, H2⟩
  iapply (H 3 _ h3 _ Q) $$ [HO HE H3]
  · iframe HR HO HE H3
  iintro ⟨HO, HE, H3⟩
  iapply Hk
  iframe HO HE H0 H1 H2 H3

theorem Above.mono {b b' : ℕ} {l : List Pay} (h : Above b l) (hb : b' ≤ b) : Above b' l :=
  fun p hp => ⟨(h p hp).1, Nat.lt_of_le_of_lt hb (h p hp).2⟩
theorem Above.tail {b : ℕ} {p : Pay} {l : List Pay} (h : Above b (p :: l)) : Above b l := fun q hq => h q (List.mem_cons_of_mem _ hq)

variable (I K ι c)

theorem posC_dup (k : Ck) (n : ℕ) : posC (F := F) c k n ⊢ iprop(posC c k n ∗ reached ER (kcell c k) n) := by
  unfold posC
  iintro ⟨H, #Hr⟩
  isplitl [H]
  · isplitl [H]; · iexact H
    iexact Hr
  iexact Hr

theorem backP_S (r : Fin 4) {h : ℕ} (hh : h ≤ 7) : backP I c r h = anyS c r := if_pos hh
theorem backP_R (r : Fin 4) {h : ℕ} (hh : 7 ≤ h) : backP I c r (h + 1) = rbufO c r (par h) fullShare.left (mV I r h (fromD r c)) := by
  unfold backP; rw [if_neg (by omega), par_add_two, Nat.add_sub_cancel]

/-! ## What is still to be used -/

/-- The tokens for the messages from `a` on, the arrivals from `b` on, the signals from `d` on and the waits for
    signals from `e` on. -/
def rem (r : Fin 4) (a b d e : ℕ) : sProp 𝕄 :=
  iprop(bigSep (Finset.Ico a 14) (sendRes c r) ∗ bigSep (Finset.Ico b 14) (recvRes c r)
    ∗ bigSep (Finset.Ico d 12) (sigRes c r) ∗ bigSep (Finset.Ico e 12) (cwRes c r))

/-- The tokens for the copies out from `a` on, each with its block of the result. -/
abbrev outs (r : Fin 4) (a : ℕ) : sProp 𝕄 := bigSep (Finset.Ico a 8) (outRes c r)
/-- The first `n` blocks of the result, written. -/
abbrev done (r : Fin 4) (n : ℕ) : sProp 𝕄 :=
  bigSep (Finset.range n) fun k => owns (c : Thread nD τ) (outM c r (f8 k)) fullShare (oV I r k c)

theorem rem_send (r : Fin 4) {a b d e : ℕ} (h : a < 14) : rem (F := F) c r a b d e ⊢ iprop(sendRes c r a ∗ rem c r (a + 1) b d e) := by
  unfold rem; rw [from_take (sendRes c r) h]
  iintro ⟨⟨H1, H2⟩, H3, H4, H5⟩; iframe H1 H2 H3 H4 H5
theorem rem_recv (r : Fin 4) {a b d e : ℕ} (h : b < 14) : rem (F := F) c r a b d e ⊢ iprop(recvRes c r b ∗ rem c r a (b + 1) d e) := by
  unfold rem; rw [from_take (recvRes c r) h]
  iintro ⟨H3, ⟨H1, H2⟩, H4, H5⟩; iframe H1 H2 H3 H4 H5
theorem rem_sig (r : Fin 4) {a b d e : ℕ} (h : d < 12) : rem (F := F) c r a b d e ⊢ iprop(sigRes c r d ∗ rem c r a b (d + 1) e) := by
  unfold rem; rw [from_take (sigRes c r) h]
  iintro ⟨H3, H4, ⟨H1, H2⟩, H5⟩; iframe H1 H2 H3 H4 H5
theorem rem_cw (r : Fin 4) {a b d e : ℕ} (h : e < 12) : rem (F := F) c r a b d e ⊢ iprop(cwRes c r e ∗ rem c r a b d (e + 1)) := by
  unfold rem; rw [from_take (cwRes c r) h]
  iintro ⟨H3, H4, H5, ⟨H1, H2⟩⟩; iframe H1 H2 H3 H4 H5
theorem outs_take (r : Fin 4) {a : ℕ} (h : a < 8) : outs (F := F) c r a ⊢ iprop(outRes c r a ∗ outs c r (a + 1)) :=
  Entails.of_eq (from_take (outRes c r) h)

/-! ## The reduction -/

/-- A ring before step `h` of the reduction, `n` of the signals counted: message `h` under way, the block that the
    next one is added to formed. -/
def RS (h n : ℕ) (r : Fin 4) : sProp 𝕄 :=
  iprop(accO c r (gV I r (f8 (h + 1)) c) ∗ sCred c r h ∗ sPos c r h ∗ sPos c r (h + 1) ∗ rPos c r h ∗ rPos c r (h + 1)
    ∗ rdr c r h ∗ rdr c r (h + 1) ∗ avail c r (h + 1) ∗ avail (toD r c) r 1 ∗ cPos I c r n ∗ rem c r (h + 1) h h n ∗ oPos c r 0 ∗ outs c r 0)

theorem mV_red (r : Fin 4) {h : ℕ} (hh : h ≤ 5) :
    mV I r (h + 1) c = dn3 (k0_pay39 (up3 (gV I r (f8 (h + 1)) c)) (up4 (mV I r h (fromD r c)))) := if_pos hh

/-- A step's first part: the arrival, the departure, the next message formed, the slot given back. -/
theorem red_head (h n : ℕ) (hh : h ≤ 5) (r : Fin 4) (l : List Pay) (hl : Above (8 * h + 2 * r.val + 2) (.crd r h :: l)) :
    Tr I K ι c [Op.recvS r h, .sentS r h, .upd r h, .sig r] (.crd r h :: l) l (RS I c h n r)
      iprop(anyA c r ∗ sbufO c r (mV I r (h + 1) c) ∗ sPos c r (h + 1) ∗ sPos c r (h + 2) ∗ rPos c r (h + 1) ∗ rPos c r (h + 2)
        ∗ rdr c r (h + 1) ∗ rdr c r (h + 2) ∗ avail c r (h + 2) ∗ avail (toD r c) r 1 ∗ cPos I c r n ∗ rem c r (h + 1) (h + 1) (h + 1) n
        ∗ oPos c r 0 ∗ outs c r 0) := fun rest Q => by
  simp only [List.cons_append, List.nil_append]
  unfold RS
  iintro ⟨#HR, HO, Ha, HsC, HsP, HsP1, HrP, HrP1, Hrd, Hrd1, #Hav1, #HavT, HcP, Hm, HoP, Hou⟩ Hk
  ihave Hm := (rem_recv c r (by omega)) $$ Hm
  icases Hm with ⟨Hrv, Hm⟩
  iapply (wp_recvS I K ι c Q (I.s c) _ _ r h (by omega) hl) $$ [HO Hrv HrP]
  · iframe HR Hrv HO HrP
  iintro ⟨HO, HrP2, Hr⟩
  iapply (wp_sentS I K ι c Q (I.s c) _ _ r h (by omega) (hl.mono (Nat.zero_le _))) $$ [HO HsC HsP]
  · iframe HR HsC HO HsP
  iintro ⟨HO, HsP2, Hb⟩
  ihave Hb := (Entails.of_eq (backP_S I c r (by omega))) $$ Hb
  unfold recvP
  iapply (wp_upd c Q (I.s c) _ r h _ _) $$ [Ha Hr Hb]
  · iframe Ha Hr Hb
  iintro ⟨Ha, Hr, Hs⟩
  rw [← mV_red I c r hh]
  ihave HrP2 := (posC_dup c _ _) $$ HrP2
  icases HrP2 with ⟨HrP2, #HrR⟩
  ihave Hm := (rem_sig c r (by omega)) $$ Hm
  icases Hm with ⟨Hsg, Hm⟩
  iapply (wp_sig I K ι c Q (I.s c) _ _ r h (by omega)) $$ [HO Hsg Hrd Hr]
  · isplitr; · iexact HR
    isplitl [Hsg]; · iexact Hsg
    isplitl [HO]; · iexact HO
    isplitl [Hrd]; · iexact Hrd
    isplitl [Hr]; · unfold anyR; iexists _; iexact Hr
    isplitr; · iexact Hav1
    iexact HrR
  iintro ⟨HO, Hrd2, #Hav2⟩
  iapply Hk
  isplitl [HO]; · iexact HO
  isplitl [Ha]; · unfold anyA; iexists _; iexact Ha
  iframe Hs HsP1 HsP2 HrP1 HrP2 Hrd1 Hrd2 Hav2 HavT HcP Hm HoP Hou

/-- Its last part: the next message sent, and the block after it formed. -/
theorem red_tail (h n : ℕ) (hh : h ≤ 5) (r : Fin 4) (t : Fin 8) (ht : t = f8 (h + 2)) (l : List Pay) :
    Tr I K ι c [Op.sendS r (h + 1), .gemm r t] (.send r (h + 1) :: l) l
      iprop(avail (toD r c) r (h + 1) ∗ xwP I c ∗ anyA c r ∗ sbufO c r (mV I r (h + 1) c) ∗ sPos c r (h + 1) ∗ sPos c r (h + 2) ∗ rPos c r (h + 1) ∗ rPos c r (h + 2)
        ∗ rdr c r (h + 1) ∗ rdr c r (h + 2) ∗ avail c r (h + 2) ∗ avail (toD r c) r 1 ∗ cPos I c r n ∗ rem c r (h + 1) (h + 1) (h + 1) n
        ∗ oPos c r 0 ∗ outs c r 0)
      iprop(xwP I c ∗ RS I c (h + 1) n r) := fun rest Q => by
  subst ht
  simp only [List.cons_append, List.nil_append]
  unfold RS
  iintro ⟨#HR, HO, #Hav, Hxw, Ha, Hs, HsP1, HsP2, HrP1, HrP2, Hrd1, Hrd2, #Hav2, #HavT, HcP, Hm, HoP, Hou⟩ Hk
  ihave Hm := (rem_send c r (by omega)) $$ Hm
  icases Hm with ⟨Hsd, Hm⟩
  ihave HsP1 := (posC_dup c _ _) $$ HsP1
  icases HsP1 with ⟨HsP1, #HsR⟩
  iapply (wp_sendS I K ι c Q (I.s c) _ _ r (h + 1) (by omega)) $$ [HO Hsd Hs]
  · iframe HR Hav Hsd HO HsR Hs
  iintro ⟨HO, HsC⟩
  iapply (wp_gemm c Q I (I.s c) _ r _) $$ [Hxw Ha]
  · iframe Hxw Ha
  iintro ⟨Hxw, Ha⟩
  iapply Hk
  iframe HO Hxw Ha HsC HsP1 HsP2 HrP1 HrP2 Hrd1 Hrd2 Hav2 HavT HcP Hm HoP Hou

/-- Step 0 of the reduction. -/
theorem red_zero (r : Fin 4) (l : List Pay) (hl : Above (2 * r.val + 2) (.crd r 0 :: .send r 1 :: l)) :
    Tr I K ι c ([Op.recvS r 0, .sentS r 0, .upd r 0, .sig r] ++ (if 0 = 0 then [] else [Op.cwait r]) ++ [.sendS r (0 + 1), .gemm r 2])
      ([.crd r 0, .send r 1] ++ l) l iprop(xwP I c ∗ RS I c 0 0 r) iprop(xwP I c ∗ RS I c 1 0 r) := fun rest Q => by
  rw [if_pos rfl, List.append_nil, List.append_assoc]
  iintro ⟨#HR, HO, Hxw, H⟩ Hk
  iapply (red_head I K ι c 0 0 (by decide) r _ (hl.mono (by omega)) _ Q) $$ [HO H]
  · iframe HR HO H
  iintro ⟨HO, Ha, Hs, HsP1, HsP2, HrP1, HrP2, Hrd1, Hrd2, #Hav2, #HavT, HcP, Hm, HoP, Hou⟩
  iapply (red_tail I K ι c 0 0 (by decide) r 2 rfl l rest Q) $$ [HO Hxw Ha Hs HsP1 HsP2 HrP1 HrP2 Hrd1 Hrd2 HcP Hm HoP Hou]
  · iframe HR HO HavT Hxw Ha Hs HsP1 HsP2 HrP1 HrP2 Hrd1 Hrd2 Hav2 HcP Hm HoP Hou
  iexact Hk

theorem lev_cred (r : Fin 4) {n : ℕ} (hn : n ≤ 6) : levK (.cred r) n = 8 * (n + 1) + 2 * r.val + 1 := if_pos hn
theorem lev_cred' (r : Fin 4) {n : ℕ} (hn : 7 ≤ n) : levK (.cred r) n = 8 * (n + 2) + 2 * r.val + 1 := if_neg (by omega)

/-- Steps 1 … 5 of the reduction. -/
theorem red_succ (n : ℕ) (hn : n ≤ 4) (r : Fin 4) (t : Fin 8) (ht : t = f8 (n + 3)) (l : List Pay)
    (hl : Above (8 * (n + 1) + 2 * r.val + 2) (.crd r (n + 1) :: .send r (n + 2) :: l)) :
    Tr I K ι c ([Op.recvS r (n + 1), .sentS r (n + 1), .upd r (n + 1), .sig r] ++ (if n + 1 = 0 then [] else [Op.cwait r])
        ++ [.sendS r (n + 1 + 1), .gemm r t])
      ([.crd r (n + 1), .send r (n + 2)] ++ l) l iprop(xwP I c ∗ RS I c (n + 1) n r) iprop(xwP I c ∗ RS I c (n + 2) (n + 1) r) := fun rest Q => by
  rw [if_neg (Nat.succ_ne_zero n), List.append_assoc, List.append_assoc]
  iintro ⟨#HR, HO, Hxw, H⟩ Hk
  iapply (red_head I K ι c (n + 1) n (by omega) r _ hl _ Q) $$ [HO H]
  · iframe HR HO H
  iintro ⟨HO, Ha, Hs, HsP1, HsP2, HrP1, HrP2, Hrd1, Hrd2, #Hav2, #HavT, HcP, Hm, HoP, Hou⟩
  ihave Hm := (rem_cw c r (by omega)) $$ Hm
  icases Hm with ⟨Hcw, Hm⟩
  rw [List.cons_append, List.nil_append]
  iapply (wp_cwait I K ι c Q (I.s c) _ _ r n (by omega) (hl.tail.mono (by rw [lev_cred r (by omega)]; omega))) $$ [HO Hcw HcP]
  · iframe HR Hcw HO HcP
  iintro ⟨HO, HcP, #HavN⟩
  iapply (red_tail I K ι c (n + 1) (n + 1) (by omega) r t ht l rest Q) $$ [HO Hxw Ha Hs HsP1 HsP2 HrP1 HrP2 Hrd1 Hrd2 HcP Hm HoP Hou]
  · iframe HR HO HavN Hxw Ha Hs HsP1 HsP2 HrP1 HrP2 Hrd1 Hrd2 Hav2 HavT HcP Hm HoP Hou
  iexact Hk

end Cert.KernelIdeal.Body

end
-- ==== Proof.KernelIdeal.Gather.lean ====
/- The prologue, the end of the reduction and the gathering, ring by ring. -/
module

public import proofs.«01_k».proof.Proof.KernelIdeal.Reduce

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (K : Dev nD × Ck → ℕ) (ι : Key → ℕ) (c : Dev nD)

/-! ## The prologue -/

/-- What a device has of a ring at the beginning, but for the pages of the send buffer and the accumulator. -/
def R0 (r : Fin 4) : sProp 𝕄 :=
  iprop(sPos c r 0 ∗ sPos c r 1 ∗ rPos c r 0 ∗ rPos c r 1
    ∗ rdr c r 0 ∗ rdr c r 1 ∗ avail c r 1 ∗ avail (toD r c) r 0 ∗ avail (toD r c) r 1 ∗ cPos I c r 0 ∗ rem c r 0 0 0 0 ∗ oPos c r 0 ∗ outs c r 0)

theorem set_cast (r : Fin 4) (l : List Pay) :
    Tr I K ι c [Op.gemm r 0, .cast r] l l iprop(xwP I c ∗ anyA c r ∗ anyS c r ∗ R0 I c r)
      iprop(xwP I c ∗ anyA c r ∗ sbufO c r (mV I r 0 c) ∗ R0 I c r) := fun rest Q => by
  simp only [List.cons_append, List.nil_append]
  iintro ⟨#HR, HO, Hxw, Ha, Hs, H⟩ Hk
  iapply (wp_gemm c Q I (I.s c) _ r _) $$ [Hxw Ha]
  · iframe Hxw Ha
  iintro ⟨Hxw, Ha⟩
  iapply (wp_cast c Q (I.s c) _ r _) $$ [Ha Hs]
  · iframe Ha Hs
  iintro ⟨Ha, Hs⟩
  iapply Hk
  iframe HO Hxw
  isplitl [Ha]; · unfold anyA; iexists _; iexact Ha
  isplitl [Hs]; · iexact Hs
  iexact H

/-- A ring once its first message is under way. -/
def R1 (r : Fin 4) : sProp 𝕄 :=
  iprop(anyA c r ∗ sCred c r 0 ∗ sPos c r 0 ∗ sPos c r 1 ∗ rPos c r 0 ∗ rPos c r 1
    ∗ rdr c r 0 ∗ rdr c r 1 ∗ avail c r 1 ∗ avail (toD r c) r 1 ∗ cPos I c r 0 ∗ rem c r 1 0 0 0 ∗ oPos c r 0 ∗ outs c r 0)

theorem set_send (r : Fin 4) (l : List Pay) :
    Tr I K ι c [Op.sendS r 0] ([.send r 0] ++ l) l iprop(xwP I c ∗ anyA c r ∗ sbufO c r (mV I r 0 c) ∗ R0 I c r)
      iprop(xwP I c ∗ R1 I c r) := fun rest Q => by
  simp only [List.cons_append, List.nil_append]
  unfold R0 R1
  iintro ⟨#HR, HO, Hxw, Ha, Hs, HsP, HsP1, HrP, HrP1, Hrd, Hrd1, #Hav1, #HavT0, #HavT, HcP, Hm, HoP, Hou⟩ Hk
  ihave Hm := (rem_send c r (by omega)) $$ Hm
  icases Hm with ⟨Hsd, Hm⟩
  ihave HsP := (posC_dup c _ _) $$ HsP
  icases HsP with ⟨HsP, #HsR⟩
  iapply (wp_sendS I K ι c Q (I.s c) _ _ r 0 (by omega)) $$ [HO Hsd Hs]
  · iframe HR HavT0 Hsd HO HsR Hs
  iintro ⟨HO, HsC⟩
  iapply Hk
  iframe HO Hxw Ha HsC HsP HsP1 HrP HrP1 Hrd Hrd1 Hav1 HavT HcP Hm HoP Hou

theorem set_gemm (r : Fin 4) (l : List Pay) :
    Tr I K ι c [Op.gemm r 1] l l iprop(xwP I c ∗ R1 I c r) iprop(xwP I c ∗ RS I c 0 0 r) := fun rest Q => by
  simp only [List.cons_append, List.nil_append]
  unfold R1 RS
  iintro ⟨#HR, HO, Hxw, Ha, H⟩ Hk
  iapply (wp_gemm c Q I (I.s c) _ r _) $$ [Hxw Ha]
  · iframe Hxw Ha
  iintro ⟨Hxw, Ha⟩
  iapply Hk
  iframe HO Hxw
  isplitl [Ha]; · iexact Ha
  iexact H

theorem done_zero (r : Fin 4) : (iprop(emp) : sProp 𝕄) ⊢ done I c r 0 := by
  unfold done
  exact Entails.of_eq (by rw [Finset.range_zero, bigSep_empty]; rfl)

theorem done_succ (r : Fin 4) (m : ℕ) : iprop(owns (c : Thread nD τ) (outM c r (f8 m)) fullShare (oV I r m c) ∗ done I c r m) ⊢ (done I c r (m + 1) : sProp 𝕄) := by
  unfold done
  exact Entails.of_eq (upto_add (fun k => owns (c : Thread nD τ) (outM c r (f8 k)) fullShare (oV I r k c)) m).symm

/-! ## The end of the reduction -/

/-- The copies out with the `m`-th under way. -/
def O (r : Fin 4) (m : ℕ) : sProp 𝕄 := iprop(oCred c r ∗ oPos c r m ∗ outs c r (m + 1) ∗ done I c r m)

/-- A ring between the reduction and the gathering. -/
def S7 (r : Fin 4) : sProp 𝕄 :=
  iprop(sCred c r 7 ∗ sPos c r 7 ∗ sPos c r 8 ∗ rPos c r 7 ∗ rPos c r 8
    ∗ rdr c r 7 ∗ rdr c r 8 ∗ avail c r 8 ∗ cPos I c r 6 ∗ rem c r 8 7 7 6 ∗ O I c r 0)

theorem step_six (r : Fin 4) (l : List Pay) (hl : Above (50 + 2 * r.val) (.crd r 6 :: .send r 7 :: l)) :
    Tr I K ι c [Op.recvS r 6, .sentS r 6, .fin r, .sig r, .cwait r, .sendS r 7] ([.crd r 6, .send r 7] ++ l) l
      iprop(emp ∗ RS I c 6 5 r) iprop(emp ∗ S7 I c r) := fun rest Q => by
  simp only [List.cons_append, List.nil_append]
  unfold RS S7 O
  iintro ⟨#HR, HO, -, Ha, HsC, HsP, HsP1, HrP, HrP1, Hrd, Hrd1, #Hav1, -, HcP, Hm, HoP, Hou⟩ Hk
  ihave Hm := (rem_recv c r (by omega)) $$ Hm
  icases Hm with ⟨Hrv, Hm⟩
  iapply (wp_recvS I K ι c Q (I.s c) _ _ r 6 (by omega) (hl.mono (by show 8 * 6 + 2 * r.val + 2 ≤ _; omega))) $$ [HO Hrv HrP]
  · iframe HR Hrv HO HrP
  iintro ⟨HO, HrP2, Hr⟩
  iapply (wp_sentS I K ι c Q (I.s c) _ _ r 6 (by omega) (hl.mono (Nat.zero_le _))) $$ [HO HsC HsP]
  · iframe HR HsC HO HsP
  iintro ⟨HO, HsP2, Hb⟩
  ihave Hb := (Entails.of_eq (backP_S I c r (by omega))) $$ Hb
  unfold recvP
  ihave Hou := (outs_take c r (by omega)) $$ Hou
  icases Hou with ⟨Ho0, Hou⟩
  ihave HoP := (posC_dup c _ _) $$ HoP
  icases HoP with ⟨HoP, #HoR⟩
  iapply (wp_fin I K ι c Q _ r) $$ [Ha Hr Hb Ho0]
  · isplitr; · iexact HR
    isplitl [Ho0]; · iexact Ho0
    isplitr; · iexact HoR
    isplitl [Ha]; · iexact Ha
    isplitl [Hr]; · iexact Hr
    iexact Hb
  iintro ⟨HoC, Hr, Hs⟩
  ihave HrP2 := (posC_dup c _ _) $$ HrP2
  icases HrP2 with ⟨HrP2, #HrR⟩
  ihave Hm := (rem_sig c r (by omega)) $$ Hm
  icases Hm with ⟨Hsg, Hm⟩
  iapply (wp_sig I K ι c Q (I.s c) _ _ r 6 (by omega)) $$ [HO Hsg Hrd Hr]
  · isplitr; · iexact HR
    isplitl [Hsg]; · iexact Hsg
    isplitl [HO]; · iexact HO
    isplitl [Hrd]; · iexact Hrd
    isplitl [Hr]; · unfold anyR; iexists _; iexact Hr
    isplitr; · iexact Hav1
    iexact HrR
  iintro ⟨HO, Hrd2, #Hav2⟩
  ihave Hm := (rem_cw c r (by omega)) $$ Hm
  icases Hm with ⟨Hcw, Hm⟩
  iapply (wp_cwait I K ι c Q (I.s c) _ _ r 5 (by omega) (hl.tail.mono (by rw [lev_cred r (by omega)]; omega))) $$ [HO Hcw HcP]
  · iframe HR Hcw HO HcP
  iintro ⟨HO, HcP, #HavN⟩
  ihave Hm := (rem_send c r (by omega)) $$ Hm
  icases Hm with ⟨Hsd, Hm⟩
  ihave HsP1 := (posC_dup c _ _) $$ HsP1
  icases HsP1 with ⟨HsP1, #HsR⟩
  iapply (wp_sendS I K ι c Q (I.s c) _ _ r 7 (by omega)) $$ [HO Hsd Hs]
  · iframe HR HavN Hsd HO HsR Hs
  iintro ⟨HO, HsC⟩
  iapply Hk
  isplitl [HO]; · iexact HO
  isplitr; · iempintro
  iframe HsC HsP1 HsP2 HrP1 HrP2 Hrd1 Hrd2 Hav2 HcP Hm HoC HoP Hou
  iapply (done_zero I c r)
  iempintro

/-! ## The gathering -/

/-- A ring in the gathering before the step of message `g + 1`: message `g`, being passed on, still to be copied out. -/
def D (g : ℕ) (r : Fin 4) : sProp 𝕄 :=
  iprop(anyS c r ∗ sCred c r (g + 1) ∗ sPos c r (g + 1) ∗ sPos c r (g + 2)
    ∗ rPos c r (g + 1) ∗ rPos c r (g + 2) ∗ rdr c r g ∗ rdr c r (g + 1) ∗ avail c r (g + 1) ∗ cPos I c r g ∗ rem c r (g + 2) (g + 1) g g)

/-- The slot of message `g`, held for reading. -/
abbrev half (g : ℕ) (r : Fin 4) : sProp 𝕄 := rbufO c r (par g) fullShare.right (mV I r g (fromD r c))

theorem step_seven (r : Fin 4) (l : List Pay) (hl : Above (58 + 2 * r.val) (.send r 8 :: l)) :
    Tr I K ι c [Op.recvS r 7, .sentS r 7, .cwait r, .sendR r 8] ([.send r 8] ++ l) l
      iprop(emp ∗ S7 I c r) iprop(emp ∗ half I c 7 r ∗ O I c r 0 ∗ D I c 7 r) := fun rest Q => by
  simp only [List.cons_append, List.nil_append]
  unfold S7 D
  iintro ⟨#HR, HO, -, HsC, HsP, HsP1, HrP, HrP1, Hrd, Hrd1, #Hav1, HcP, Hm, Hout⟩ Hk
  ihave Hm := (rem_recv c r (by omega)) $$ Hm
  icases Hm with ⟨Hrv, Hm⟩
  iapply (wp_recvS I K ι c Q (I.s c) _ _ r 7 (by omega) (hl.mono (by show 8 * 7 + 2 * r.val + 2 ≤ _; omega))) $$ [HO Hrv HrP]
  · iframe HR Hrv HO HrP
  iintro ⟨HO, HrP2, Hr⟩
  iapply (wp_sentS I K ι c Q (I.s c) _ _ r 7 (by omega) (hl.mono (Nat.zero_le _))) $$ [HO HsC HsP]
  · iframe HR HsC HO HsP
  iintro ⟨HO, HsP2, Hb⟩
  ihave Hb := (Entails.of_eq (backP_S I c r (by omega))) $$ Hb
  unfold recvP
  ihave Hm := (rem_cw c r (by omega)) $$ Hm
  icases Hm with ⟨Hcw, Hm⟩
  iapply (wp_cwait I K ι c Q (I.s c) _ _ r 6 (by omega) (hl.mono (by rw [lev_cred r (by omega)]; omega))) $$ [HO Hcw HcP]
  · iframe HR Hcw HO HcP
  iintro ⟨HO, HcP, #HavN⟩
  ihave Hm := (rem_send c r (by omega)) $$ Hm
  icases Hm with ⟨Hsd, Hm⟩
  ihave HsP1 := (posC_dup c _ _) $$ HsP1
  icases HsP1 with ⟨HsP1, #HsR⟩
  ihave Hr := (owns_halves (c : Thread nD τ) (rbufM r (par 7)) fullShare (mV I r 7 (fromD r c))).1 $$ Hr
  icases Hr with ⟨Hrl, Hrr⟩
  iapply (wp_sendR I K ι c Q (I.s c) _ _ r 8 (by omega) (by omega)) $$ [HO Hsd Hrl]
  · isplitr; · iexact HR
    isplitr; · iexact HavN
    isplitl [Hsd]; · iexact Hsd
    isplitl [HO]; · iexact HO
    isplitr; · iexact HsR
    iexact Hrl
  iintro ⟨HO, HsC⟩
  iapply Hk
  isplitl [HO]; · iexact HO
  isplitr; · iempintro
  isplitl [Hrr]; · iexact Hrr
  isplitl [Hout]; · iexact Hout
  iframe Hb HsC HsP1 HsP2 HrP1 HrP2 Hrd Hrd1 Hav1 HcP Hm

/-- A copy out of what message `g` brought, once the copy before it is through. -/
theorem flush_one (g m : ℕ) (hg : g = m + 7) (hm : m < 7) (k' k : Fin 8) (hk : k = f8 (m + 1)) (q : PosShare TreeShare) (r : Fin 4)
    (l : List Pay) (hl : Above 0 l) (E : sProp 𝕄) :
    Tr I K ι c [Op.outWait r k', .widen r g, .outStart r k] ([] ++ l) l
      iprop(emp ∗ rbufO c r (par g) q (mV I r g (fromD r c)) ∗ O I c r m ∗ E)
      iprop(emp ∗ rbufO c r (par g) q (mV I r g (fromD r c)) ∗ O I c r (m + 1) ∗ E) := fun rest Q => by
  subst hg
  simp only [List.cons_append, List.nil_append]
  unfold O
  iintro ⟨#HR, HO, -, Hr, ⟨HoC, HoP, Hou, Hdn⟩, HE⟩ Hk
  iapply (wp_outWait I K ι c Q (I.s c) _ _ r m k' (by omega) hl) $$ [HO HoC HoP]
  · iframe HR HoC HO HoP
  unfold outP
  iintro ⟨HO, HoP, Ha, Hb⟩
  iapply (wp_widen c Q (I.s c) _ r (m + 7) q _) $$ [Hr Ha]
  · iframe Hr Ha
  iintro ⟨Hr, Ha⟩
  ihave Hou := (outs_take c r (by omega)) $$ Hou
  icases Hou with ⟨Ho1, Hou⟩
  ihave HoP := (posC_dup c _ _) $$ HoP
  icases HoP with ⟨HoP, #HoR⟩
  iapply (wp_outStart I K ι c Q (I.s c) _ r (m + 1) k hk (by omega)) $$ [Ha Ho1]
  · isplitr; · iexact HR
    isplitl [Ho1]; · iexact Ho1
    isplitr; · iexact HoR
    iexact Ha
  iintro HoC
  iapply Hk
  isplitl [HO]; · iexact HO
  isplitr; · iempintro
  isplitl [Hr]; · iexact Hr
  isplitr [HE]
  · isplitl [HoC]; · iexact HoC
    isplitl [HoP]; · iexact HoP
    isplitl [Hou]; · iexact Hou
    iapply (done_succ I c r m) $$ [Hb Hdn]
    isplitl [Hb]; · iexact Hb
    iexact Hdn
  iexact HE

/-- The rest of a gathering step. -/
theorem gat_main (g m : ℕ) (h7 : 7 ≤ g) (hg : g ≤ 11) (r : Fin 4) (l : List Pay)
    (hl : Above (8 * g + 2 * r.val + 10) (.crd r g :: .send r (g + 2) :: l)) (hl' : Above (8 * g + 2 * r.val + 17) (.send r (g + 2) :: l)) :
    Tr I K ι c [Op.recvR r (g + 1), .sentR r (g + 1), .sig r, .cwait r, .sendR r (g + 1 + 1)] ([.crd r g, .send r (g + 2)] ++ l) l
      iprop(emp ∗ half I c g r ∗ O I c r m ∗ D I c g r) iprop(emp ∗ half I c (g + 1) r ∗ O I c r m ∗ D I c (g + 1) r) := fun rest Q => by
  simp only [List.cons_append, List.nil_append]
  unfold D
  iintro ⟨#HR, HO, -, Hrr, Hout, Hb, HsC, HsP, HsP1, HrP, HrP1, Hrd, Hrd1, #Hav1, HcP, Hm⟩ Hk
  ihave Hm := (rem_recv c r (by omega)) $$ Hm
  icases Hm with ⟨Hrv, Hm⟩
  iapply (wp_recvR I K ι c Q (I.s c) _ _ r (g + 1) (by omega) (hl.mono (by show 8 * (g + 1) + 2 * r.val + 2 ≤ _; omega))) $$ [HO Hrv HrP]
  · iframe HR Hrv HO HrP
  iintro ⟨HO, HrP2, Hr⟩
  iapply (wp_sentR I K ι c Q (I.s c) _ _ r (g + 1) (by omega) (hl.mono (Nat.zero_le _))) $$ [HO HsC HsP]
  · iframe HR HsC HO HsP
  iintro ⟨HO, HsP2, Hl⟩
  ihave Hl := (Entails.of_eq (backP_R I c r h7)) $$ Hl
  ihave Hfull := (owns_halves (c : Thread nD τ) (rbufM r (par g)) fullShare (mV I r g (fromD r c))).2 $$ [Hl Hrr]
  · isplitl [Hl]; · iexact Hl
    iexact Hrr
  unfold recvP
  ihave HrP1 := (posC_dup c _ _) $$ HrP1
  icases HrP1 with ⟨HrP1, #HrR⟩
  ihave Hm := (rem_sig c r (by omega)) $$ Hm
  icases Hm with ⟨Hsg, Hm⟩
  iapply (wp_sig I K ι c Q (I.s c) _ _ r g (by omega)) $$ [HO Hsg Hrd Hfull]
  · isplitr; · iexact HR
    isplitl [Hsg]; · iexact Hsg
    isplitl [HO]; · iexact HO
    isplitl [Hrd]; · iexact Hrd
    isplitl [Hfull]; · unfold anyR; iexists _; iexact Hfull
    isplitr; · iexact Hav1
    iexact HrR
  iintro ⟨HO, Hrd2, #Hav2⟩
  ihave Hm := (rem_cw c r (by omega)) $$ Hm
  icases Hm with ⟨Hcw, Hm⟩
  iapply (wp_cwait I K ι c Q (I.s c) _ _ r g (by omega) (hl'.mono (by rw [lev_cred' r h7]; omega))) $$ [HO Hcw HcP]
  · iframe HR Hcw HO HcP
  iintro ⟨HO, HcP, #HavN⟩
  ihave Hm := (rem_send c r (by omega)) $$ Hm
  icases Hm with ⟨Hsd, Hm⟩
  ihave HsP1 := (posC_dup c _ _) $$ HsP1
  icases HsP1 with ⟨HsP1, #HsR⟩
  ihave Hr := (owns_halves (c : Thread nD τ) (rbufM r (par (g + 1))) fullShare (mV I r (g + 1) (fromD r c))).1 $$ Hr
  icases Hr with ⟨Hrl, Hrr⟩
  have e : (rbufO c r (par (g + 2 + 1)) fullShare.left (mV I r (g + 2 - 1) (fromD r c)) : sProp 𝕄)
      = rbufO c r (par (g + 1)) fullShare.left (mV I r (g + 1) (fromD r c)) := by
    rw [show par (g + 2 + 1) = par (g + 1) from par_add_two (g + 1)]; rfl
  iapply (wp_sendR I K ι c Q (I.s c) _ _ r (g + 2) (by omega) (by omega)) $$ [HO Hsd Hrl]
  · isplitr; · iexact HR
    isplitr; · iexact HavN
    isplitl [Hsd]; · iexact Hsd
    isplitl [HO]; · iexact HO
    isplitr; · iexact HsR
    rw [e]
    iexact Hrl
  iintro ⟨HO, HsC⟩
  iapply Hk
  isplitl [HO]; · iexact HO
  isplitr; · iempintro
  isplitl [Hrr]; · iexact Hrr
  isplitl [Hout]; · iexact Hout
  iframe Hb HsC HsP1 HsP2 HrP1 HrP2 Hrd1 Hrd2 Hav2 HcP Hm

/-- What is left of a ring at the end. -/
def Z (r : Fin 4) : sProp 𝕄 :=
  iprop(anyS c r ∗ anyR c r 0 ∗ sPos c r 14 ∗ sPos c r 15 ∗ rPos c r 14 ∗ rPos c r 15 ∗ cPos I c r 12)

/-- The last arrival. -/
theorem last_recv (r : Fin 4) (l : List Pay) (hl : Above 112 l) :
    Tr I K ι c [Op.recvR r 13, .sentR r 13] ([] ++ l) l
      iprop(emp ∗ half I c 12 r ∗ O I c r 6 ∗ D I c 12 r)
      iprop(emp ∗ rbufO c r (par 13) fullShare (mV I r 13 (fromD r c)) ∗ O I c r 6 ∗ Z I c r) := fun rest Q => by
  simp only [List.cons_append, List.nil_append]
  unfold D Z
  iintro ⟨#HR, HO, -, Hrr, Hout, Hb, HsC, HsP, HsP1, HrP, HrP1, -, -, -, HcP, Hm⟩ Hk
  ihave Hm := (rem_recv c r (by omega)) $$ Hm
  icases Hm with ⟨Hrv, -⟩
  iapply (wp_recvR I K ι c Q (I.s c) _ _ r 13 (by omega) (hl.mono (by show 8 * 13 + 2 * r.val + 2 ≤ _; have := r.isLt; omega))) $$ [HO Hrv HrP]
  · iframe HR Hrv HO HrP
  iintro ⟨HO, HrP2, Hr⟩
  iapply (wp_sentR I K ι c Q (I.s c) _ _ r 13 (by omega) (hl.mono (Nat.zero_le _))) $$ [HO HsC HsP]
  · iframe HR HsC HO HsP
  iintro ⟨HO, HsP2, Hl⟩
  ihave Hl := (Entails.of_eq (backP_R I c r (by omega))) $$ Hl
  ihave Hfull := (owns_halves (c : Thread nD τ) (rbufM r (par 12)) fullShare (mV I r 12 (fromD r c))).2 $$ [Hl Hrr]
  · isplitl [Hl]; · iexact Hl
    iexact Hrr
  unfold recvP
  iapply Hk
  isplitl [HO]; · iexact HO
  isplitr; · iempintro
  isplitl [Hr]; · iexact Hr
  isplitl [Hout]; · iexact Hout
  isplitl [Hb]; · iexact Hb
  isplitl [Hfull]; · unfold anyR; iexists _; iexact Hfull
  iframe HsP1 HsP2 HrP1 HrP2 HcP

/-- The end of the last copy out. -/
theorem last_wait (r : Fin 4) (l : List Pay) (hl : Above 0 l) :
    Tr I K ι c [Op.outWait r 7] ([] ++ l) l
      iprop(emp ∗ rbufO c r (par 13) fullShare (mV I r 13 (fromD r c)) ∗ O I c r 7 ∗ Z I c r)
      iprop(emp ∗ anyR c r 1 ∗ anyA c r ∗ oPos c r 8 ∗ done I c r 8 ∗ Z I c r) := fun rest Q => by
  simp only [List.cons_append, List.nil_append]
  unfold O
  iintro ⟨#HR, HO, -, Hr, ⟨HoC, HoP, -, Hdn⟩, HZ⟩ Hk
  iapply (wp_outWait I K ι c Q (I.s c) _ _ r 7 7 (by omega) hl) $$ [HO HoC HoP]
  · iframe HR HoC HO HoP
  unfold outP
  iintro ⟨HO, HoP, Ha, Hb⟩
  iapply Hk
  isplitl [HO]; · iexact HO
  isplitr; · iempintro
  isplitl [Hr]; · unfold anyR; iexists _; iexact Hr
  isplitl [Ha]; · iexact Ha
  isplitl [HoP]; · iexact HoP
  isplitl [Hb Hdn]
  · iapply (done_succ I c r 7) $$ [Hb Hdn]
    isplitl [Hb]; · iexact Hb
    iexact Hdn
  iexact HZ

/-! ## All the operations -/

/-- What the step of arrival `h` pays on a ring. -/
def payOf (h : ℕ) (r : Fin 4) : List Pay :=
  if h ≤ 6 then [.crd r h, .send r (h + 1)] else if h = 7 then [.send r 8] else [.crd r (h - 1), .send r (h + 1)]
/-- What the last `n` of the steps up to the twelfth pay. -/
def after : ℕ → List Pay
  | 0 => []
  | n + 1 => rings.flatMap (payOf (12 - n)) ++ after n
/-- What the operations pay. -/
def pays : List Pay := (rings.flatMap fun r => [Pay.send r 0]) ++ after 13

variable {I K ι c} in
theorem Tr.four_emp (blk : Fin 4 → List Op) (pay : Fin 4 → List Pay) (A B : Fin 4 → sProp 𝕄) (E : sProp 𝕄) (l : List Pay)
    (ok : Fin 4 → List Pay → Prop)
    (H : ∀ r l', ok r l' → Tr I K ι c (blk r) (pay r ++ l') l' iprop(emp ∗ A r) iprop(emp ∗ B r))
    (h3 : ok 3 l) (h2 : ok 2 (pay 3 ++ l)) (h1 : ok 1 (pay 2 ++ (pay 3 ++ l))) (h0 : ok 0 (pay 1 ++ (pay 2 ++ (pay 3 ++ l)))) :
    Tr I K ι c (rings.flatMap blk) (rings.flatMap pay ++ l) l iprop(E ∗ Four A) iprop(E ∗ Four B) :=
  Tr.four blk pay A B E l ok (fun r l' hk rest Q => by
    iintro ⟨#HR, HO, HE, HA⟩ Hk
    iapply (H r l' hk rest Q) $$ [HO HA]
    · isplitr; · iexact HR
      isplitl [HO]; · iexact HO
      isplitr; · iempintro
      iexact HA
    iintro ⟨HO, -, HB⟩
    iapply Hk
    iframe HO HE HB) h3 h2 h1 h0

/-- What each ring has at the beginning of the operations. -/
abbrev Start (r : Fin 4) : sProp 𝕄 := iprop(anyA c r ∗ anyS c r ∗ R0 I c r)
/-- What each ring has at the end. -/
abbrev Finish (r : Fin 4) : sProp 𝕄 := iprop(anyR c r 1 ∗ anyA c r ∗ oPos c r 8 ∗ done I c r 8 ∗ Z I c r)

theorem tr_setup : Tr I K ι c setup pays (after 13) iprop(xwP I c ∗ Four (Start I c)) iprop(xwP I c ∗ Four (RS I c 0 0)) := by
  have h1 := Tr.four (I := I) (K := K) (ι := ι) (c := c) (fun r => [Op.gemm r 0, .cast r]) (fun _ => []) (Start I c)
    (fun r => iprop(anyA c r ∗ sbufO c r (mV I r 0 c) ∗ R0 I c r)) (xwP I c) pays (fun _ _ => True)
    (fun r l' _ => set_cast I K ι c r l') trivial trivial trivial trivial
  have h2 := Tr.four (I := I) (K := K) (ι := ι) (c := c) (fun r => [Op.sendS r 0]) (fun r => [Pay.send r 0])
    (fun r => iprop(anyA c r ∗ sbufO c r (mV I r 0 c) ∗ R0 I c r)) (R1 I c) (xwP I c) (after 13) (fun _ _ => True)
    (fun r l' _ => set_send I K ι c r l') trivial trivial trivial trivial
  have h3 := Tr.four (I := I) (K := K) (ι := ι) (c := c) (fun r => [Op.gemm r 1]) (fun _ => []) (R1 I c)
    (RS I c 0 0) (xwP I c) (after 13) (fun _ _ => True)
    (fun r l' _ => set_gemm I K ι c r l') trivial trivial trivial trivial
  exact (h1.seq h2).seq h3

theorem tr_red_zero : Tr I K ι c (redStep 0 2) (after 13) (after 12) iprop(xwP I c ∗ Four (RS I c 0 0)) iprop(xwP I c ∗ Four (RS I c 1 0)) :=
  Tr.four _ (payOf 0) _ _ _ (after 12) (fun r l => Above (2 * r.val + 2) (payOf 0 r ++ l))
    (fun r l' hl => red_zero I K ι c r l' hl) (by decide +kernel) (by decide +kernel) (by decide +kernel) (by decide +kernel)

theorem tr_red_succ (n : ℕ) (hn : n ≤ 4) (t : Fin 8) (ht : t = f8 (n + 3)) (l : List Pay)
    (ok : ∀ r, Above (8 * (n + 1) + 2 * r.val + 2) (payOf (n + 1) r ++ (((rings.drop (r.val + 1)).flatMap (payOf (n + 1))) ++ l))) :
    Tr I K ι c (redStep (n + 1) t) (rings.flatMap (payOf (n + 1)) ++ l) l iprop(xwP I c ∗ Four (RS I c (n + 1) n)) iprop(xwP I c ∗ Four (RS I c (n + 2) (n + 1))) := by
  refine Tr.four _ (payOf (n + 1)) _ _ _ l (fun r l => Above (8 * (n + 1) + 2 * r.val + 2) (payOf (n + 1) r ++ l))
    (fun r l' hl => ?_) (ok 3) ?_ ?_ ?_
  · have e : payOf (n + 1) r = [.crd r (n + 1), .send r (n + 2)] := if_pos (by omega)
    rw [e] at hl ⊢
    exact red_succ I K ι c n hn r t ht l' hl
  · simpa using ok 2
  · simpa using ok 1
  · simpa using ok 0

end Cert.KernelIdeal.Body

end
-- ==== Proof.KernelIdeal.All.lean ====
/- All the operations of the body as one triple. -/
module

public import proofs.«01_k».proof.Proof.KernelIdeal.Gather

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (K : Dev nD × Ck → ℕ) (ι : Key → ℕ) (c : Dev nD)

theorem tr_red (h n : ℕ) (t : Fin 8) (e : h = n + 1) (hn : n ≤ 4) (ht : t = f8 (n + 3)) (m : ℕ) (hm : m = 12 - h)
    (ok : ∀ r, Above (8 * (n + 1) + 2 * r.val + 2) (payOf (n + 1) r ++ (((rings.drop (r.val + 1)).flatMap (payOf (n + 1))) ++ after m))) :
    Tr I K ι c (redStep h t) (after (m + 1)) (after m) iprop(xwP I c ∗ Four (RS I c h n)) iprop(xwP I c ∗ Four (RS I c (h + 1) h)) := by
  subst e
  have := tr_red_succ I K ι c n hn t ht (after m) ok
  rw [after, show 12 - m = n + 1 by omega]
  exact this

theorem tr_six : Tr I K ι c step6 (after 7) (after 6) iprop(xwP I c ∗ Four (RS I c 6 5)) iprop(xwP I c ∗ Four (S7 I c)) :=
  Tr.four_emp _ (payOf 6) _ _ _ (after 6) (fun r l => Above (50 + 2 * r.val) (payOf 6 r ++ l))
    (fun r l' hl => step_six I K ι c r l' hl) (by decide +kernel) (by decide +kernel) (by decide +kernel) (by decide +kernel)

/-- What each ring has in the gathering. -/
abbrev G (g m : ℕ) (r : Fin 4) : sProp 𝕄 := iprop(half I c g r ∗ O I c r m ∗ D I c g r)

theorem tr_seven : Tr I K ι c step7 (after 6) (after 5) iprop(xwP I c ∗ Four (S7 I c)) iprop(xwP I c ∗ Four (G I c 7 0)) :=
  Tr.four_emp _ (payOf 7) _ _ _ (after 5) (fun r l => Above (58 + 2 * r.val) (payOf 7 r ++ l))
    (fun r l' hl => step_seven I K ι c r l' hl) (by decide +kernel) (by decide +kernel) (by decide +kernel) (by decide +kernel)

theorem tr_flush (g m : ℕ) (hg : g = m + 7) (hm : m < 7) (k' k : Fin 8) (hk : k = f8 (m + 1)) (q : PosShare TreeShare)
    (l : List Pay) (hl : Above 0 l) (E : Fin 4 → sProp 𝕄) :
    Tr I K ι c (flush g k' k) l l
      iprop(xwP I c ∗ Four fun r => iprop(rbufO c r (par g) q (mV I r g (fromD r c)) ∗ O I c r m ∗ E r))
      iprop(xwP I c ∗ Four fun r => iprop(rbufO c r (par g) q (mV I r g (fromD r c)) ∗ O I c r (m + 1) ∗ E r)) :=
  Tr.four_emp _ (fun _ => []) _ _ _ l (fun _ l => Above 0 l)
    (fun r l' hl => flush_one I K ι c g m hg hm k' k hk q r l' hl (E r)) hl hl hl hl

theorem tr_gat (h g m : ℕ) (e : h = g + 1) (h7 : 7 ≤ g) (hg : g ≤ 11) (hm : g = m + 7) (k' k : Fin 8) (hk : k = f8 (m + 1)) (n : ℕ) (hn : n = 12 - h)
    (hl0 : Above 0 (after (n + 1)))
    (ok : ∀ r, Above (8 * g + 2 * r.val + 10) (payOf (g + 1) r ++ (((rings.drop (r.val + 1)).flatMap (payOf (g + 1))) ++ after n)))
    (ok' : ∀ r, Above (8 * g + 2 * r.val + 17) (.send r (g + 2) :: (((rings.drop (r.val + 1)).flatMap (payOf (g + 1))) ++ after n))) :
    Tr I K ι c (gatStep h k' k) (after (n + 1)) (after n) iprop(xwP I c ∗ Four (G I c g m)) iprop(xwP I c ∗ Four (G I c h (m + 1))) := by
  subst e
  have h1 := tr_flush I K ι c g m hm (by omega) k' k hk fullShare.right _ hl0 (D I c g)
  refine Tr.seq h1 ?_
  rw [after, show 12 - n = g + 1 by omega]
  have e : ∀ r, payOf (g + 1) r = [.crd r g, .send r (g + 2)] := fun r => by
    unfold payOf; rw [if_neg (by omega), if_neg (by omega), Nat.add_sub_cancel]
  refine Tr.four_emp _ (payOf (g + 1)) _ _ _ (after n)
    (fun r l => Above (8 * g + 2 * r.val + 10) (payOf (g + 1) r ++ l) ∧ Above (8 * g + 2 * r.val + 17) (.send r (g + 2) :: l))
    (fun r l' hl => ?_) ⟨ok 3, ok' 3⟩ ⟨?_, ?_⟩ ⟨?_, ?_⟩ ⟨?_, ?_⟩
  · rw [e] at hl ⊢
    exact gat_main I K ι c g (m + 1) h7 hg r l' hl.1 hl.2
  · simpa using ok 2
  · simpa using ok' 2
  · simpa using ok 1
  · simpa using ok' 1
  · simpa using ok 0
  · simpa using ok' 0

theorem tr_last : Tr I K ι c lastStep [] [] iprop(xwP I c ∗ Four (G I c 12 5)) iprop(xwP I c ∗ Four (Finish I c)) := by
  have h0 : ∀ b, Above b [] := fun b p hp => absurd hp List.not_mem_nil
  have h1 := tr_flush I K ι c 12 5 rfl (by decide) 5 6 rfl fullShare.right [] (h0 _) (D I c 12)
  have h2 : Tr I K ι c (rings.flatMap fun r => [Op.recvR r 13, .sentR r 13]) [] [] iprop(xwP I c ∗ Four (G I c 12 6)) _ :=
    Tr.four_emp (fun r => [Op.recvR r 13, .sentR r 13]) (fun _ => []) (G I c 12 6) _ (xwP I c) [] (fun _ l => Above 112 l)
      (fun r l' hl => last_recv I K ι c r l' hl) (h0 _) (h0 _) (h0 _) (h0 _)
  have h3 := tr_flush I K ι c 13 6 rfl (by decide) 6 7 rfl fullShare [] (h0 _) (Z I c)
  have h4 : Tr I K ι c (rings.map fun r => Op.outWait r 7) [] [] _ iprop(xwP I c ∗ Four (Finish I c)) :=
    Tr.four_emp (fun r => [Op.outWait r 7]) (fun _ => []) _ _ (xwP I c) [] (fun _ l => Above 0 l)
      (fun r l' hl => last_wait I K ι c r l' hl) (h0 _) (h0 _) (h0 _) (h0 _)
  exact ((h1.seq h2).seq h3).seq h4

/-- The operations pay all that is owed, and leave the result written. -/
theorem tr_ops : Tr I K ι c ops pays [] iprop(xwP I c ∗ Four (Start I c)) iprop(xwP I c ∗ Four (Finish I c)) := by
  have a0 := (tr_setup I K ι c).seq (tr_red_zero I K ι c)
  have a1 := a0.seq (tr_red I K ι c 1 0 3 rfl (by decide) rfl 11 rfl (by decide +kernel))
  have a2 := a1.seq (tr_red I K ι c 2 1 4 rfl (by decide) rfl 10 rfl (by decide +kernel))
  have a3 := a2.seq (tr_red I K ι c 3 2 5 rfl (by decide) rfl 9 rfl (by decide +kernel))
  have a4 := a3.seq (tr_red I K ι c 4 3 6 rfl (by decide) rfl 8 rfl (by decide +kernel))
  have a5 := a4.seq (tr_red I K ι c 5 4 7 rfl (by decide) rfl 7 rfl (by decide +kernel))
  have a7 := (a5.seq (tr_six I K ι c)).seq (tr_seven I K ι c)
  have g8 := a7.seq (tr_gat I K ι c 8 7 0 rfl (by decide) (by decide) rfl 0 1 rfl 4 rfl (by decide +kernel) (by decide +kernel) (by decide +kernel))
  have g9 := g8.seq (tr_gat I K ι c 9 8 1 rfl (by decide) (by decide) rfl 1 2 rfl 3 rfl (by decide +kernel) (by decide +kernel) (by decide +kernel))
  have g10 := g9.seq (tr_gat I K ι c 10 9 2 rfl (by decide) (by decide) rfl 2 3 rfl 2 rfl (by decide +kernel) (by decide +kernel) (by decide +kernel))
  have g11 := g10.seq (tr_gat I K ι c 11 10 3 rfl (by decide) (by decide) rfl 3 4 rfl 1 rfl (by decide +kernel) (by decide +kernel) (by decide +kernel))
  have g12 := g11.seq (tr_gat I K ι c 12 11 4 rfl (by decide) (by decide) rfl 4 5 rfl 0 rfl (by decide +kernel) (by decide +kernel) (by decide +kernel))
  exact g12.seq (tr_last I K ι c)

end Cert.KernelIdeal.Body

end
-- ==== Proof.KernelIdeal.Whole.lean ====
/- The whole body: the slots given out, the handshake with both neighbours, the scale, the operations, and the cells closed. -/
module

public import proofs.«01_k».proof.Proof.KernelIdeal.All

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : Inp F) (K : Dev nD × Ck → ℕ) (ι : Key → ℕ) (c : Dev nD) (Q : PUnit.{1} → sProp (MT nD τ sig ℕ (Elt F) ℕ UU ℕ))

/-! ## The beginning -/

/-- A device at the beginning of round 0 of a cell. -/
abbrev at0 (k : Ck) : sProp 𝕄 := atPos ER (kcell c k) 0 ∅ 0

/-- What a device holds of its own, of a ring, when its body begins. -/
def Own0 (r : Fin 4) : sProp 𝕄 :=
  iprop(anyA c r ∗ anyS c r ∗ anyR c r 0 ∗ anyR c r 1 ∗ readerAt ES (c, r, (0 : Fin 2)) 0 ∗ readerAt ES (c, r, (1 : Fin 2)) 0
    ∗ at0 c (.send r 0) ∗ at0 c (.send r 1) ∗ at0 c (.recv r 0) ∗ at0 c (.recv r 1) ∗ at0 c (.cred r) ∗ at0 c (.out r)
    ∗ rem c r 0 0 0 0 ∗ outs c r 0)

/-- The same once both slots are given out. -/
def Own1 (r : Fin 4) : sProp 𝕄 :=
  iprop(anyA c r ∗ anyS c r ∗ sPos c r 0 ∗ sPos c r 1 ∗ rPos c r 0 ∗ rPos c r 1
    ∗ rdr c r 0 ∗ rdr c r 1 ∗ avail c r 0 ∗ avail c r 1 ∗ cPos I c r 0 ∗ rem c r 0 0 0 0 ∗ oPos c r 0 ∗ outs c r 0)

theorem posC_intro (k : Ck) : iprop(recs I K ι ∗ at0 c k) ⊢ posC (F := F) c k 0 := by
  unfold posC
  iintro ⟨#HR, H⟩
  isplitl [H]; · iexact H
  iapply (recs_reached I K ι c k); iexact HR

/-- A slot given out for its first write. -/
theorem give_slot (r : Fin 4) (j : Fin 2) :
    iprop(recs I K ι ∗ readerAt ES (c, r, j) 0 ∗ anyR c r j)
      ⊢ (|={Set.univ}=> (readerAt ES (c, r, j) 1 ∗ released ES (c, r, j) 1 ∗ reached ER (kcell c (.recv r j)) 0) : sProp 𝕄) := by
  unfold anyR owns
  iintro ⟨#HR, Hrd, ⟨%X, %f, -, Hs⟩⟩
  ihave #Hi := (recs_slot I K ι (c, r, j)) $$ HR
  ihave #Hr := (recs_reached I K ι c (.recv r j)) $$ HR
  imod (slot_release ES (Set.mem_univ _) (slotP_excl (c, r, j)) 0) $$ [Hrd Hs] with ⟨Hrd, #Hrel⟩
  · isplitr; · iexact Hi
    isplitl [Hrd]; · iexact Hrd
    unfold slotP slot; iexists f; iexact Hs
  imodintro
  isplitl [Hrd]; · iexact Hrd
  isplitr; · iexact Hrel
  iexact Hr

theorem ring_open (r : Fin 4) : iprop(recs I K ι ∗ Own0 c r) ⊢ |={Set.univ}=> Own1 I c r := by
  unfold Own0 Own1
  iintro ⟨#HR, Ha, Hs, Hr0, Hr1, Hd0, Hd1, Hs0, Hs1, Hv0, Hv1, Hc, Ho, Hm, Hou⟩
  imod (give_slot I K ι c r 0) $$ [Hd0 Hr0] with ⟨Hd0, #Hl0, #He0⟩
  · iframe HR Hd0 Hr0
  imod (give_slot I K ι c r 1) $$ [Hd1 Hr1] with ⟨Hd1, #Hl1, #He1⟩
  · iframe HR Hd1 Hr1
  imodintro
  isplitl [Ha]; · iexact Ha
  isplitl [Hs]; · iexact Hs
  isplitl [Hs0]; · iapply (posC_intro I K ι c (.send r 0)); iframe HR Hs0
  isplitl [Hs1]; · iapply (posC_intro I K ι c (.send r 1)); iframe HR Hs1
  isplitl [Hv0]; · iapply (posC_intro I K ι c (.recv r 0)); iframe HR Hv0
  isplitl [Hv1]; · iapply (posC_intro I K ι c (.recv r 1)); iframe HR Hv1
  isplitl [Hd0]; · iexact Hd0
  isplitl [Hd1]; · iexact Hd1
  isplitr
  · unfold avail
    isplitr; · iexact Hl0
    iexact He0
  isplitr
  · unfold avail
    isplitr; · iexact Hl1
    iexact He1
  isplitl [Hc]
  · unfold cPos
    iexists ∅
    isplitr; · ipureintro; exact ⟨Finset.empty_subset _, Nat.zero_le _⟩
    isplitl [Hc]; · iexact Hc
    rw [bigSep_empty]; iempintro
  isplitl [Hm]; · iexact Hm
  isplitl [Ho]; · iapply (posC_intro I K ι c (.out r)); iframe HR Ho
  iexact Hou

/-! ## The end -/

/-- What a device holds of a ring when its body has ended. -/
def Own2 (r : Fin 4) : sProp 𝕄 :=
  iprop(anyA c r ∗ anyS c r ∗ anyR c r 0 ∗ anyR c r 1 ∗ done I c r 8
    ∗ semVal (kcell c (.send r 0)) 0 ∗ semVal (kcell c (.send r 1)) 0 ∗ semVal (kcell c (.recv r 0)) 0 ∗ semVal (kcell c (.recv r 1)) 0
    ∗ semVal (kcell c (.cred r)) 0 ∗ semVal (kcell c (.out r)) 0)

/-- A cell on which nothing more is due closes with its counter at zero. -/
theorem close_pos (k : Ck) (n : ℕ) (h : ∀ m, n ≤ m → dutyK k m = ∅) :
    iprop(recs I K ι ∗ posC c k n) ⊢ |={Set.univ}=> (semVal (kcell c k) 0 : sProp 𝕄) := by
  unfold posC
  iintro ⟨#HR, H, -⟩
  ihave #Hi := (recs_cell I K ι c k) $$ HR
  iapply (Rounds.cell_close ER (Rd I) (Set.mem_univ (K (c, k))) (fun h => h) (R := n) (Rd_later I c k n h))
  isplitr; · iexact Hi
  iexact H

theorem close_cred (r : Fin 4) : iprop(recs I K ι ∗ cPos I c r 12) ⊢ |={Set.univ}=> (semVal (kcell c (.cred r)) 0 : sProp 𝕄) := by
  unfold cPos
  iintro ⟨#HR, ⟨%S, %hS, H, -⟩⟩
  have e : S = Finset.range 12 := Finset.eq_of_subset_of_card_le hS.1 (by rw [Finset.card_range]; exact hS.2)
  subst e
  ihave #Hi := (recs_cell I K ι c (.cred r)) $$ HR
  imod (fupd_skip ER (Rd I) (κ := K (c, .cred r)) (g := kcell c (.cred r)) (R := 0) (m := 12) (T := Finset.range 12)
    (Rd_duties I c (.cred r) 0).subset ((Rd_expect I c (.cred r) 0).trans rfl).symm (Set.mem_univ _)) $$ [H] with ⟨H, -⟩
  · isplitr; · iexact Hi
    iexact H
  iapply (Rounds.cell_close ER (Rd I) (Set.mem_univ (K (c, .cred r))) (fun h => h) (R := 0 + 1)
    (Rd_later I c (.cred r) 1 fun m hm => if_neg (by omega)))
  isplitr; · iexact Hi
  iexact H

theorem later_send (r : Fin 4) (j : Fin 2) : ∀ m, 7 ≤ m → dutyK (.send r j) m = ∅ := fun m hm => if_neg (by omega)
theorem later_recv (r : Fin 4) (j : Fin 2) : ∀ m, 7 ≤ m → dutyK (.recv r j) m = ∅ := fun m hm => if_neg (by omega)
theorem later_out (r : Fin 4) : ∀ m, 8 ≤ m → dutyK (.out r) m = ∅ := fun m hm => if_neg (by omega)
theorem later_bar : ∀ m, 1 ≤ m → dutyK .bar m = ∅ := fun m hm => if_neg (by omega)

theorem ring_close (r : Fin 4) : iprop(recs I K ι ∗ Finish I c r) ⊢ |={Set.univ}=> Own2 I c r := by
  unfold Finish Z Own2
  iintro ⟨#HR, Hr1, Ha, Ho, Hd, Hs, Hr0, Hs0, Hs1, Hv0, Hv1, Hc⟩
  imod (close_pos I K ι c (.send r 0) 7 (later_send r 0)) $$ [Hs0] with Hs0
  · isplitr; · iexact HR
    iexact Hs0
  imod (close_pos I K ι c (.send r 1) 7 (later_send r 1)) $$ [Hs1] with Hs1
  · isplitr; · iexact HR
    iexact Hs1
  imod (close_pos I K ι c (.recv r 0) 7 (later_recv r 0)) $$ [Hv0] with Hv0
  · isplitr; · iexact HR
    iexact Hv0
  imod (close_pos I K ι c (.recv r 1) 7 (later_recv r 1)) $$ [Hv1] with Hv1
  · isplitr; · iexact HR
    iexact Hv1
  imod (close_pos I K ι c (.out r) 8 (later_out r)) $$ [Ho] with Ho
  · isplitr; · iexact HR
    iexact Ho
  imod (close_cred I K ι c r) $$ [Hc] with Hc
  · isplitr; · iexact HR
    iexact Hc
  imodintro
  iframe Ha Hs Hr0 Hr1 Hd Hs0 Hs1 Hv0 Hv1 Hc Ho

theorem four_fupd {A B : Fin 4 → sProp 𝕄} (h : ∀ r, iprop(recs I K ι ∗ A r) ⊢ |={Set.univ}=> B r) :
    iprop(recs I K ι ∗ Four A) ⊢ |={Set.univ}=> Four B := by
  iintro ⟨#HR, H0, H1, H2, H3⟩
  imod (h 0) $$ [H0] with H0
  · iframe HR H0
  imod (h 1) $$ [H1] with H1
  · iframe HR H1
  imod (h 2) $$ [H2] with H2
  · iframe HR H2
  imod (h 3) $$ [H3] with H3
  · iframe HR H3
  imodintro
  iframe H0 H1 H2 H3

/-! ## The handshake -/

/-- The signals to both neighbours, each saying that the two slots of the rings it sends on are free. -/
theorem wp_barL (l : List Pay) {kk : PUnit → P F PUnit} :
    iprop(recs I K ι ∗ dutyTok ER (kcell (leftD c) .bar) 0 0 ∗ Ow c (.barL :: l) ∗ pay2P c 0 ∗ pay2P c 1)
      ⊢ iprop((Ow c l -∗ WP c (kk ⟨⟩) Q) -∗ WP c ((semSignalWord (leftD c) barS 1#32 : P F PUnit) >>= kk) Q) := by
  simp only [semSignalWord, Prog.lift, Prog.bind_op, Prog.bind_ret]
  unfold Ow
  iintro ⟨#HR, Ht, ⟨%W, HO⟩, Hp⟩ Hk
  ihave #Hi1 := (recs_cell I K ι (leftD c) .bar) $$ HR
  ihave #Hr0 := (recs_reached I K ι (leftD c) .bar) $$ HR
  iapply (Rounds.wp_signal 𝒱₀ ER (Rd I) (c : Thread nD τ) none (dst := ((leftD c : Dev nD) : Thread nD τ)) (sem := barS)
      (κ := K (leftD c, .bar)) (r := 0) (d := 0) (k' := 1)
      (by rw [show (((leftD c : Dev nD) : Thread nD τ), SemLoc.reg barS) = kcell (leftD c) .bar from rfl, Rd_duties]; decide)
      (Rd_amount I (leftD c) .bar 0 0) 0 (owed c l) rfl (W := W) (k := kk)) $$ [HO Ht Hp]
  · isplitr; · iexact Hi1
    isplitl [HO]; · iexact HO
    isplitl [Ht]; · iexact Ht
    isplitl [Hp]
    · rw [show (Rd I).payload (((leftD c : Dev nD) : Thread nD τ), SemLoc.reg barS) 0 0 = payK I (leftD c) .bar 0 0 from
        Rd_payload I (leftD c) .bar 0 0]
      unfold payK
      dsimp only
      rw [if_pos rfl, right_left]
      iexact Hp
    iexact Hr0
  iintro HO
  iapply Hk
  iexists W; iexact HO

theorem wp_barR (l : List Pay) {kk : PUnit → P F PUnit} :
    iprop(recs I K ι ∗ dutyTok ER (kcell (rightD c) .bar) 0 1 ∗ Ow c (.barR :: l) ∗ pay2P c 2 ∗ pay2P c 3)
      ⊢ iprop((Ow c l -∗ WP c (kk ⟨⟩) Q) -∗ WP c ((semSignalWord (rightD c) barS 1#32 : P F PUnit) >>= kk) Q) := by
  simp only [semSignalWord, Prog.lift, Prog.bind_op, Prog.bind_ret]
  unfold Ow
  iintro ⟨#HR, Ht, ⟨%W, HO⟩, Hp⟩ Hk
  ihave #Hi1 := (recs_cell I K ι (rightD c) .bar) $$ HR
  ihave #Hr0 := (recs_reached I K ι (rightD c) .bar) $$ HR
  iapply (Rounds.wp_signal 𝒱₀ ER (Rd I) (c : Thread nD τ) none (dst := ((rightD c : Dev nD) : Thread nD τ)) (sem := barS)
      (κ := K (rightD c, .bar)) (r := 0) (d := 1) (k' := 1)
      (by rw [show (((rightD c : Dev nD) : Thread nD τ), SemLoc.reg barS) = kcell (rightD c) .bar from rfl, Rd_duties]; decide)
      (Rd_amount I (rightD c) .bar 0 1) 0 (owed c l) rfl (W := W) (k := kk)) $$ [HO Ht Hp]
  · isplitr; · iexact Hi1
    isplitl [HO]; · iexact HO
    isplitl [Ht]; · iexact Ht
    isplitl [Hp]
    · rw [show (Rd I).payload (((rightD c : Dev nD) : Thread nD τ), SemLoc.reg barS) 0 1 = payK I (rightD c) .bar 0 1 from
        Rd_payload I (rightD c) .bar 0 1]
      unfold payK
      dsimp only
      rw [if_neg Nat.one_ne_zero, left_right]
      iexact Hp
    iexact Hr0
  iintro HO
  iapply Hk
  iexists W; iexact HO

theorem rest_bar :
    bigSep ((Rd I).duties (kcell c .bar) 0 \ ∅) (fun d => (Rd I).payload (kcell c .bar) 0 d)
      = iprop((pay2P (rightD c) 0 ∗ pay2P (rightD c) 1) ∗ (pay2P (leftD c) 2 ∗ pay2P (leftD c) 3)) := by
  rw [Finset.sdiff_empty, Rd_duties, show dutyK .bar 0 = {0, 1} from rfl, bigSep_insert (by decide), bigSep_singleton, Rd_payload, Rd_payload]
  rfl

/-- The wait for both neighbours' signals. -/
theorem wp_barW (l : List Pay) (hl : Above 1 l) {kk : PUnit → P F PUnit} :
    iprop(recs I K ι ∗ cred (tallyAt (kcell c .bar) 0 2) ∗ Ow c l ∗ at0 c .bar)
      ⊢ iprop(((Ow c l ∗ posC c .bar 1 ∗ (pay2P (rightD c) 0 ∗ pay2P (rightD c) 1) ∗ (pay2P (leftD c) 2 ∗ pay2P (leftD c) 3)) -∗ WP c (kk ⟨⟩) Q)
          -∗ WP c ((semWaitWord barS 2#32 : P F PUnit) >>= kk) Q) := by
  simp only [semWaitWord, Prog.lift, Prog.bind_op, Prog.bind_ret]
  unfold Ow posC
  iintro ⟨#HR, Hc, ⟨%W, HO⟩, Hat⟩ Hk
  ihave #Hlev := (recs_lev I K ι) $$ HR
  ihave #Hi := (recs_cell I K ι c .bar) $$ HR
  iapply (Rounds.wp_wait_rest_token 𝒱₀ ER (Rd I) (c : Thread nD τ) none (κ := K (c, .bar))
    (wpE_semWait_eq 𝒱₀ (c : Thread nD τ) none Set.univ) (Set.mem_univ _) 0
    (O := owed c l) (W := W) (R := 0) (m := 0) (T := ∅)
    (by rw [Nat.zero_add]; exact ((Rd_expect I c .bar 0).trans rfl).symm)) $$ [Hc HO Hat]
  · isplitr; · iexact Hi
    isplitl [Hc]; · iexact Hc
    isplitl [HO]; · iexact HO
    isplitr
    · iapply (mayWait_cell c .bar 0 (by decide) l hl); iexact Hlev
    iexact Hat
  iintro ⟨HO, Hat, Hr, Hp⟩
  ihave Hp := (Entails.of_eq (show bigSep ((Rd I).duties (((c : Dev nD) : Thread nD τ), SemLoc.reg barS) 0 \ ∅)
      (fun d => (Rd I).payload (((c : Dev nD) : Thread nD τ), SemLoc.reg barS) 0 d) = _ from rest_bar I c)) $$ Hp
  iapply Hk
  isplitl [HO]; · iexists _; iexact HO
  isplitl [Hat Hr]
  · isplitl [Hat]; · iexact Hat
    iexact Hr
  iexact Hp

/-! ## The scale -/

abbrev aM2 : Memref sig .tc .smem S1 .f32 := win0_2.stage 0
abbrev aM3 : Memref sig .tc .smem S1 .f32 := win0_3.stage 0
abbrev rect1 : Rect S1 := Rect.unit (s := S1) ![0] S1.size inb_S1_S1_0
def sc2 (f : aM2.view.ty.Contents (Elt F)) : F .f32 := (aM2.access rect1).read (Elt F) f (Shape.Idx.first (numel1_S1.symm ▸ Nat.one_pos))
def sc3 (f : aM3.view.ty.Contents (Elt F)) : F .f32 := (aM3.access rect1).read (Elt F) f (Shape.Idx.first (numel1_S1.symm ▸ Nat.one_pos))

theorem wp_sc2 (f : aM2.view.ty.Contents (Elt F)) {kk : Elt F .f32 → P F PUnit} :
    (aM2.view.loc (c : Thread nD τ) ↦{fullShare} f : sProp 𝕄)
      ⊢ iprop(((aM2.view.loc (c : Thread nD τ) ↦{fullShare} f) -∗ WP c (kk (sc2 f)) Q)
          -∗ WP c ((smemLoad aM2 rect1 numel1_S1 rfl : P F (Elt F .f32)) >>= kk) Q) :=
  wp_smemLoadElt 𝒱₀ (c : Thread nD τ) none Set.univ (m := aM2) (r := rect1) (hw := View.loads_smem_one rfl numel1_S1) (k := kk) (Finset.subset_univ _)
theorem wp_sc3 (f : aM3.view.ty.Contents (Elt F)) {kk : Elt F .f32 → P F PUnit} :
    (aM3.view.loc (c : Thread nD τ) ↦{fullShare} f : sProp 𝕄)
      ⊢ iprop(((aM3.view.loc (c : Thread nD τ) ↦{fullShare} f) -∗ WP c (kk (sc3 f)) Q)
          -∗ WP c ((smemLoad aM3 rect1 numel1_S1 rfl : P F (Elt F .f32)) >>= kk) Q) :=
  wp_smemLoadElt 𝒱₀ (c : Thread nD τ) none Set.univ (m := aM3) (r := rect1) (hw := View.loads_smem_one rfl numel1_S1) (k := kk) (Finset.subset_univ _)

/-! ## The whole body -/

theorem above_pays : Above 1 pays := by decide +kernel

/-- What a device holds when its body begins, and when it has ended. -/
def bodyIn (f2 : aM2.view.ty.Contents (Elt F)) (f3 : aM3.view.ty.Contents (Elt F)) : sProp 𝕄 :=
  iprop(Ow c (.barL :: .barR :: pays) ∗ xwP I c ∗ (aM2.view.loc (c : Thread nD τ) ↦{fullShare} f2) ∗ (aM3.view.loc (c : Thread nD τ) ↦{fullShare} f3)
    ∗ Four (Own0 c) ∗ at0 c .bar ∗ dutyTok ER (kcell (leftD c) .bar) 0 0 ∗ dutyTok ER (kcell (rightD c) .bar) 0 1
    ∗ cred (tallyAt (kcell c .bar) 0 2))
def bodyOut (f2 : aM2.view.ty.Contents (Elt F)) (f3 : aM3.view.ty.Contents (Elt F)) : sProp 𝕄 :=
  iprop(Ow c [] ∗ xwP I c ∗ (aM2.view.loc (c : Thread nD τ) ↦{fullShare} f2) ∗ (aM3.view.loc (c : Thread nD τ) ↦{fullShare} f3)
    ∗ Four (Own2 I c) ∗ semVal (kcell c .bar) 0)

theorem start_intro (r : Fin 4) (a0 a1 : sProp 𝕄) (h0 : a0 ⊢ avail (toD r c) r 0) (h1 : a1 ⊢ avail (toD r c) r 1) :
    iprop(Own1 I c r ∗ a0 ∗ a1) ⊢ Start I c r := by
  unfold Own1 Start R0
  iintro ⟨⟨Ha, Hs, Hs0, Hs1, Hv0, Hv1, Hd0, Hd1, -, Hav1, Hc, Hm, Ho, Hou⟩, H0, H1⟩
  ihave H0 := h0 $$ H0
  ihave H1 := h1 $$ H1
  iframe Ha Hs Hs0 Hs1 Hv0 Hv1 Hd0 Hd1 Hav1 H0 H1 Hc Hm Ho Hou

theorem own_avail (r : Fin 4) : Own1 I c r ⊢ iprop(pay2P c r ∗ Own1 I c r) := by
  unfold Own1 pay2P
  iintro ⟨Ha, Hs, Hs0, Hs1, Hv0, Hv1, Hd0, Hd1, #Hav0, #Hav1, Hc, Hm, Ho, Hou⟩
  isplitr
  · isplitr; · iexact Hav0
    iexact Hav1
  iframe Ha Hs Hs0 Hs1 Hv0 Hv1 Hd0 Hd1 Hav0 Hav1 Hc Hm Ho Hou

theorem wp_body (f2 : aM2.view.ty.Contents (Elt F)) (f3 : aM3.view.ty.Contents (Elt F)) (hs : I.s c = k0_pay1 (sc2 f2) (sc3 f3)) :
    iprop(recs I K ι ∗ bodyIn I c f2 f3) ⊢ iprop((bodyOut I c f2 f3 -∗ Q ⟨⟩) -∗ WP c (whole (F := F)) Q) := by
  unfold whole bodyIn bodyOut
  simp only [Prog.lift, Prog.bind_op, Prog.bind_ret, Prog.pure_eq_ret, wp_deviceId]
  iintro ⟨#HR, HO, Hxw, Hf2, Hf3, Hown, Hat, HtL, HtR, Hcb⟩ Hk
  imod (four_fupd I K ι (ring_open I K ι c)) $$ [Hown] with Hown
  · iframe HR Hown
  icases Hown with ⟨H0, H1, H2, H3⟩
  ihave H0 := (own_avail I c 0) $$ H0
  icases H0 with ⟨Hp0, H0⟩
  ihave H1 := (own_avail I c 1) $$ H1
  icases H1 with ⟨Hp1, H1⟩
  ihave H2 := (own_avail I c 2) $$ H2
  icases H2 with ⟨Hp2, H2⟩
  ihave H3 := (own_avail I c 3) $$ H3
  icases H3 with ⟨Hp3, H3⟩
  iapply (wp_barL I K ι c Q (.barR :: pays)) $$ [HO HtL Hp0 Hp1]
  · iframe HR HO HtL Hp0 Hp1
  iintro HO
  iapply (wp_barR I K ι c Q pays) $$ [HO HtR Hp2 Hp3]
  · iframe HR HO HtR Hp2 Hp3
  iintro HO
  iapply (wp_barW I K ι c Q pays above_pays) $$ [HO Hcb Hat]
  · iframe HR HO Hcb Hat
  unfold pay2P
  iintro ⟨HO, HbP, ⟨⟨Ha00, Ha01⟩, Ha10, Ha11⟩, ⟨Ha20, Ha21⟩, Ha30, Ha31⟩
  iapply (wp_sc2 c Q f2) $$ Hf2; iintro Hf2
  iapply (wp_sc3 c Q f3) $$ Hf3; iintro Hf3
  rw [← hs, show run c (I.s c) ops = run c (I.s c) (ops ++ []) by rw [List.append_nil]]
  iapply (tr_ops I K ι c [] Q) $$ [HO Hxw H0 H1 H2 H3 Ha00 Ha01 Ha10 Ha11 Ha20 Ha21 Ha30 Ha31]
  · isplitr; · iexact HR
    isplitl [HO]; · iexact HO
    isplitl [Hxw]; · iexact Hxw
    isplitl [H0 Ha00 Ha01]
    · iapply (start_intro I c 0 _ _ BIBase.Entails.rfl BIBase.Entails.rfl)
      isplitl [H0]; · iexact H0
      isplitl [Ha00]; · iexact Ha00
      iexact Ha01
    isplitl [H1 Ha10 Ha11]
    · iapply (start_intro I c 1 _ _ BIBase.Entails.rfl BIBase.Entails.rfl)
      isplitl [H1]; · iexact H1
      isplitl [Ha10]; · iexact Ha10
      iexact Ha11
    isplitl [H2 Ha20 Ha21]
    · iapply (start_intro I c 2 _ _ BIBase.Entails.rfl BIBase.Entails.rfl)
      isplitl [H2]; · iexact H2
      isplitl [Ha20]; · iexact Ha20
      iexact Ha21
    iapply (start_intro I c 3 _ _ BIBase.Entails.rfl BIBase.Entails.rfl)
    isplitl [H3]; · iexact H3
    isplitl [Ha30]; · iexact Ha30
    iexact Ha31
  iintro ⟨HO, Hxw, Hfin⟩
  imod (four_fupd I K ι (ring_close I K ι c)) $$ [Hfin] with Hfin
  · iframe HR Hfin
  imod (close_pos I K ι c .bar 1 later_bar) $$ [HbP] with HbP
  · iframe HR HbP
  simp only [run, wp_ret]
  imodintro
  iapply Hk
  iframe HO Hxw Hf2 Hf3 Hfin HbP

end Cert.KernelIdeal.Body

end
-- ==== Proof.KernelIdeal.Split.lean ====
/- The buffers taken apart into the rings' pages and the result's blocks, and put together again. -/
module

public import proofs.«01_k».proof.Proof.KernelIdeal.Whole

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Sums over small index sets -/

theorem sep_four (A : Fin 4 → sProp 𝕄) : bigSep Finset.univ A = Four A := by
  rw [show (Finset.univ : Finset (Fin 4)) = {0, 1, 2, 3} from by decide, bigSep_insert (by decide), bigSep_insert (by decide), bigSep_insert (by decide), bigSep_singleton]
  rfl

theorem sep_ico (n : ℕ) (A : ℕ → sProp 𝕄) : bigSep Finset.univ (fun i : Fin n => A i.val) = bigSep (Finset.Ico 0 n) A := by
  rw [show Finset.Ico 0 n = (Finset.univ : Finset (Fin n)).map Fin.valEmbedding from by
    rw [Fin.map_valEmbedding_univ]; ext x; simp, bigSep_map]
  rfl

theorem sep_range (n : ℕ) (A : ℕ → sProp 𝕄) : bigSep Finset.univ (fun i : Fin n => A i.val) = bigSep (Finset.range n) A := by
  rw [sep_ico, Finset.range_eq_Ico]

/-! ## A part of a buffer with its unit axes dropped -/

variable (c : Dev nD)

section Any
variable {sp : Space} {sh sh' : Shape} {e : EltTy}

/-- A memref owned at some contents. -/
abbrev anyM (m : Memref sig (c : Thread nD τ).2.kind sp sh e) : sProp 𝕄 := iprop(∃ X : sh.Idx → Elt F e, owns (c : Thread nD τ) m fullShare X)

theorem to_any (m : Memref sig (c : Thread nD τ).2.kind sp sh e) (X : sh.Idx → Elt F e) : owns (c : Thread nD τ) m fullShare X ⊢ anyM (F := F) c m := by
  unfold anyM; iintro H; iexists _; iexact H

theorem any_squeeze (m : Memref sig (c : Thread nD τ).2.kind sp sh e) (hq : sh.Squeezes sh') : anyM (F := F) c (m.squeeze sh' hq) ⊢ anyM c m := by
  unfold anyM owns
  iintro ⟨%X, %f, -, H⟩
  rw [Memref.set_view_squeeze]
  iexists (m.view.read (Elt F) f); iexists f
  isplitr; · ipureintro; rfl
  iexact H

theorem squeeze_any (m : Memref sig (c : Thread nD τ).2.kind sp sh e) (hq : sh.Squeezes sh') : anyM (F := F) c m ⊢ anyM c (m.squeeze sh' hq) := by
  unfold anyM owns
  iintro ⟨%X, %f, -, H⟩
  iexists ((m.squeeze sh' hq).view.read (Elt F) f); iexists f
  isplitr; · ipureintro; rfl
  rw [Memref.set_view_squeeze]
  iexact H

variable {T : Type} [Fintype T] [DecidableEq T] (m : Memref sig (c : Thread nD τ).2.kind sp sh e) (r : T → Rect sh) (hr : ∀ t a, (r t).stride a = 1)
  (hd : ∀ t t', t ≠ t' → Disjoint (r t).set (r t').set)
  (hcov : (Finset.univ : Finset T).biUnion (fun t => (r t).set) = Finset.univ)
include hd hcov

/-- A memref at some contents is its parts at some contents, -/
theorem any_parts : anyM (F := F) c m ⊢ bigSep Finset.univ fun t => anyM c (m.slice (r t) (hr t)) := by
  iintro ⟨%X, H⟩
  iapply ((owns_rects (c : Thread nD τ) m fullShare r hr hd hcov X).trans (BI.bigSep_mono fun t _ => to_any c _ _))
  iexact H

/-- and back. -/
theorem parts_any : (bigSep Finset.univ fun t => anyM (F := F) c (m.slice (r t) (hr t))) ⊢ anyM c m := by
  refine (BI.bigSep_exists_pi Finset.univ _).trans ?_
  iintro ⟨%Xs, H⟩
  iexists (Rect.glue r hcov Xs)
  iapply (owns_of_rects (c : Thread nD τ) m fullShare r hr hd hcov (Rect.glue r hcov Xs))
  have hg (t : T) : (fun j => Rect.glue r hcov Xs ((r t).emb j)) = Xs t := funext fun y => Rect.glue_emb r hcov hd Xs t y
  simp only [hg]
  iexact H

end Any

/-! ## The pages of the send buffers, the receive buffers and the accumulators -/

theorem rect3_disj : ∀ r r' : Fin 4, r ≠ r' → Disjoint (rect3 r).set (rect3 r').set := fun r r' h =>
  Rect.unit_disjoint (0 : Fin 3) (by
    have : r.val ≠ r'.val := fun e => h (Fin.ext e)
    show r.val + 1 ≤ r'.val ∨ r'.val + 1 ≤ r.val
    omega)
theorem rect3_cov : (Finset.univ : Finset (Fin 4)).biUnion (fun r => (rect3 r).set) = Finset.univ := by
  ext i
  simp only [Finset.mem_biUnion, Finset.mem_univ, true_and, iff_true]
  refine ⟨i 0, Rect.mem_set_unit.mpr fun a => ?_⟩
  have h1 := (i 1).isLt; have h2 := (i 2).isLt
  fin_cases a
  · exact ⟨Nat.le_refl _, Nat.lt_succ_self _⟩
  · exact ⟨Nat.zero_le _, by simpa using h1⟩
  · exact ⟨Nat.zero_le _, by simpa using h2⟩

theorem rect4_disj : ∀ p p' : Fin 4 × Fin 2, p ≠ p' → Disjoint (rect4 p.1 p.2).set (rect4 p'.1 p'.2).set := fun p p' h => by
  by_cases h0 : p.1 = p'.1
  · exact Rect.unit_disjoint (1 : Fin 4) (by
      have : p.2.val ≠ p'.2.val := fun e => h (Prod.ext h0 (Fin.ext e))
      show p.2.val + 1 ≤ p'.2.val ∨ p'.2.val + 1 ≤ p.2.val
      omega)
  · exact Rect.unit_disjoint (0 : Fin 4) (by
      have : p.1.val ≠ p'.1.val := fun e => h0 (Fin.ext e)
      show p.1.val + 1 ≤ p'.1.val ∨ p'.1.val + 1 ≤ p.1.val
      omega)
theorem rect4_cov : (Finset.univ : Finset (Fin 4 × Fin 2)).biUnion (fun p => (rect4 p.1 p.2).set) = Finset.univ := by
  ext i
  simp only [Finset.mem_biUnion, Finset.mem_univ, true_and, iff_true]
  refine ⟨(i 0, i 1), Rect.mem_set_unit.mpr fun a => ?_⟩
  have h1 := (i 2).isLt; have h2 := (i 3).isLt
  fin_cases a
  · exact ⟨Nat.le_refl _, Nat.lt_succ_self _⟩
  · exact ⟨Nat.le_refl _, Nat.lt_succ_self _⟩
  · exact ⟨Nat.zero_le _, by simpa using h1⟩
  · exact ⟨Nat.zero_le _, by simpa using h2⟩

/-- A whole buffer at some contents. -/
theorem any_whole (b : Ref sig .tc) :
    iprop(∃ f : Buf (Elt F) ((c : Thread nD τ).loc b), ((c : Thread nD τ).loc b) ↦{fullShare} f) = (anyM (F := F) c (Memref.whole b) : sProp 𝕄) := by
  show iprop(∃ f : Buf (Elt F) ((c : Thread nD τ).loc b), ((c : Thread nD τ).loc b) ↦{fullShare} f) = iprop(∃ X, owns (c : Thread nD τ) (Memref.whole b) fullShare X)
  simp only [owns_whole]

/-- All the scratch pages. -/
abbrev pages (r : Fin 4) : sProp 𝕄 := iprop(anyA c r ∗ anyS c r ∗ anyR c r 0 ∗ anyR c r 1)

theorem four_sep4 (A B C D : Fin 4 → sProp 𝕄) :
    (Four fun r => iprop(A r ∗ B r ∗ C r ∗ D r)) = iprop(Four A ∗ Four B ∗ Four C ∗ Four D) := by
  rw [← sep_four, ← sep_four, ← sep_four, ← sep_four, ← sep_four]
  rw [← bigSep_sep', ← bigSep_sep', ← bigSep_sep']

theorem scratch_open : iprop(anyM (F := F) c sM ∗ anyM c rM ∗ anyM c aM) ⊢ (Four (pages c) : sProp 𝕄) := by
  unfold pages
  rw [four_sep4]
  iintro ⟨HS, HR, HA⟩
  isplitl [HA]
  · rw [← sep_four]
    iapply ((any_parts c aM rect3 (fun _ _ => rfl) rect3_disj rect3_cov).trans (BI.bigSep_mono fun r _ => squeeze_any c _ squeezes_S1x512x2048_S512x2048))
    iexact HA
  isplitl [HS]
  · rw [← sep_four]
    iapply ((any_parts c sM rect3 (fun _ _ => rfl) rect3_disj rect3_cov).trans (BI.bigSep_mono fun r _ => squeeze_any c _ squeezes_S1x512x2048_S512x2048))
    iexact HS
  have e : (bigSep Finset.univ fun p : Fin 4 × Fin 2 => anyR (F := F) c p.1 p.2) = iprop(Four (fun r => anyR c r 0) ∗ Four (fun r => anyR c r 1)) := by
    rw [bigSep_univ_prod, ← sep_four, ← sep_four, ← bigSep_sep']
    exact bigSep_congr fun r _ => BI.bigSep_fin_two _
  iapply (((any_parts c rM (fun p : Fin 4 × Fin 2 => rect4 p.1 p.2) (fun _ _ => rfl) rect4_disj rect4_cov).trans (BI.bigSep_mono fun p _ => squeeze_any c _ squeezes_S1x1x512x2048_S512x2048)).trans (Entails.of_eq e))
  iexact HR

theorem scratch_close : (Four (pages c) : sProp 𝕄) ⊢ iprop(anyM (F := F) c sM ∗ anyM c rM ∗ anyM c aM) := by
  unfold pages
  rw [four_sep4]
  iintro ⟨HA, HS, HR⟩
  isplitl [HS]
  · iapply ((Entails.of_eq (sep_four (anyS c)).symm).trans <| (BI.bigSep_mono fun r _ => any_squeeze c _ squeezes_S1x512x2048_S512x2048).trans (parts_any c sM rect3 (fun _ _ => rfl) rect3_disj rect3_cov))
    iexact HS
  isplitl [HR]
  · have e : (bigSep Finset.univ fun p : Fin 4 × Fin 2 => anyR (F := F) c p.1 p.2) = iprop(Four (fun r => anyR c r 0) ∗ Four (fun r => anyR c r 1)) := by
      rw [bigSep_univ_prod, ← sep_four, ← sep_four, ← bigSep_sep']
      exact bigSep_congr fun r _ => BI.bigSep_fin_two _
    iapply ((Entails.of_eq e.symm).trans ((BI.bigSep_mono fun p _ => any_squeeze c _ squeezes_S1x1x512x2048_S512x2048).trans (parts_any c rM (fun p : Fin 4 × Fin 2 => rect4 p.1 p.2) (fun _ _ => rfl) rect4_disj rect4_cov)))
    iexact HR
  iapply ((Entails.of_eq (sep_four (anyA c)).symm).trans <| (BI.bigSep_mono fun r _ => any_squeeze c _ squeezes_S1x512x2048_S512x2048).trans (parts_any c aM rect3 (fun _ _ => rfl) rect3_disj rect3_cov))
  iexact HA

/-! ## The blocks of the result -/

/-- Which copy out of ring `r` writes the `b`-th block of rows. -/
def kOf (c : Dev nD) (r : Fin 4) (b : Fin 8) : Fin 8 := f8 (if r.val < 2 then c.val + 9 - b.val else b.val + 9 - c.val)

theorem oRow_kOf : ∀ (c : Dev nD) (r : Fin 4) (b : Fin 8), oRow c r (kOf c r b).val = 512 * b.val := by decide +kernel
theorem oRow_div : ∀ (c : Dev nD) (r : Fin 4) (k : Fin 8), ∃ b : Fin 8, oRow c r k.val = 512 * b.val ∧ kOf c r b = k := by decide +kernel

abbrev rectO (p : Fin 4 × Fin 8) : Rect S4096x8192 := Rect.unit (s := S4096x8192) ![oRow c p.1 p.2.val, 2048 * p.1.val] S512x2048.size (inbO c p.1 p.2)

theorem rectO_disj : ∀ p p' : Fin 4 × Fin 8, p ≠ p' → Disjoint (rectO c p).set (rectO c p').set := fun p p' h => by
  by_cases h0 : p.1 = p'.1
  · exact Rect.unit_disjoint (0 : Fin 2) (by
      obtain ⟨b, hb, hk⟩ := oRow_div c p.1 p.2
      obtain ⟨b', hb', hk'⟩ := oRow_div c p'.1 p'.2
      have : b.val ≠ b'.val := fun e => h (Prod.ext h0 (by rw [← hk, ← hk', h0, Fin.ext e]))
      show oRow c p.1 p.2.val + 512 ≤ oRow c p'.1 p'.2.val ∨ oRow c p'.1 p'.2.val + 512 ≤ oRow c p.1 p.2.val
      omega)
  · exact Rect.unit_disjoint (1 : Fin 2) (by
      have : p.1.val ≠ p'.1.val := fun e => h0 (Fin.ext e)
      show 2048 * p.1.val + 2048 ≤ 2048 * p'.1.val ∨ 2048 * p'.1.val + 2048 ≤ 2048 * p.1.val
      omega)

/-- The ring whose columns an element of the result lies in, its block of rows, and its place in the block. -/
def ringOf (i : S4096x8192.Idx) : Fin 4 := ⟨(i 1).val / 2048, by have h : (i 1).val < 8192 := (i 1).isLt; omega⟩
def rowOf (i : S4096x8192.Idx) : Fin 8 := ⟨(i 0).val / 512, by have h : (i 0).val < 4096 := (i 0).isLt; omega⟩
def inBlk (i : S4096x8192.Idx) : S512x2048.Idx := Fin.cons ⟨(i 0).val % 512, Nat.mod_lt _ (by decide)⟩ (Fin.cons ⟨(i 1).val % 2048, Nat.mod_lt _ (by decide)⟩ fun a => a.elim0)

theorem rectO_cov : (Finset.univ : Finset (Fin 4 × Fin 8)).biUnion (fun p => (rectO c p).set) = Finset.univ := by
  ext i
  simp only [Finset.mem_biUnion, Finset.mem_univ, true_and, iff_true]
  refine ⟨(ringOf i, kOf c (ringOf i) (rowOf i)), Rect.mem_set_unit.mpr fun a => ?_⟩
  fin_cases a
  · show oRow c (ringOf i) (kOf c (ringOf i) (rowOf i)).val ≤ (i 0).val ∧ (i 0).val < oRow c (ringOf i) (kOf c (ringOf i) (rowOf i)).val + 512
    rw [oRow_kOf]
    show 512 * ((i 0).val / 512) ≤ (i 0).val ∧ (i 0).val < 512 * ((i 0).val / 512) + 512
    omega
  · show 2048 * ((i 1).val / 2048) ≤ (i 1).val ∧ (i 1).val < 2048 * ((i 1).val / 2048) + 2048
    omega

variable (I : Inp F)

/-- The result on device `c`: every element from the block that holds it. -/
def outC : S4096x8192.Idx → Elt F .f32 := fun i => oV I (ringOf i) (kOf c (ringOf i) (rowOf i)).val c (inBlk i)

theorem outC_emb (p : Fin 4 × Fin 8) (j : S512x2048.Idx) : outC c I ((rectO c p).emb j) = oV I p.1 p.2.val c j := by
  obtain ⟨b, hb, hk⟩ := oRow_div c p.1 p.2
  have h0 : (((rectO c p).emb j) 0).val = 512 * b.val + (j 0).val := by
    rw [Rect.emb_apply]; show oRow c p.1 p.2.val + 1 * (j 0).val = _; rw [hb, Nat.one_mul]
  have h1 : (((rectO c p).emb j) 1).val = 2048 * p.1.val + (j 1).val := by
    rw [Rect.emb_apply]; show 2048 * p.1.val + 1 * (j 1).val = _; rw [Nat.one_mul]
  have l0 : (j 0).val < 512 := (j 0).isLt
  have l1 : (j 1).val < 2048 := (j 1).isLt
  have e1 : ringOf ((rectO c p).emb j) = p.1 := Fin.ext (by show _ / 2048 = _; rw [h1]; omega)
  have e0 : rowOf ((rectO c p).emb j) = b := Fin.ext (by show _ / 512 = _; rw [h0]; omega)
  have e2 : inBlk ((rectO c p).emb j) = j := by
    funext a
    fin_cases a
    · exact Fin.ext (by show _ % 512 = _; rw [h0]; show _ = (j 0).val; omega)
    · exact Fin.ext (by show _ % 2048 = _; rw [h1]; show _ = (j 1).val; omega)
  unfold outC
  rw [e1, e0, e2, hk]

theorem out_open (X : S4096x8192.Idx → Elt F .f32) : (owns (c : Thread nD τ) oM fullShare X : sProp 𝕄) ⊢ Four fun r => bigSep (Finset.Ico 0 8) (anyO c r) := by
  rw [← sep_four]
  refine (owns_rects (c : Thread nD τ) oM fullShare (rectO c) (fun _ _ => rfl) (rectO_disj c) (rectO_cov c) X).trans ?_
  rw [bigSep_univ_prod]
  refine BI.bigSep_mono fun r _ => ?_
  rw [← sep_ico]
  refine BI.bigSep_mono fun k _ => ?_
  unfold anyO
  rw [show f8 k.val = k from Fin.ext (Nat.mod_eq_of_lt k.isLt)]
  exact to_any c _ _

theorem out_close : (Four fun r => done I c r 8) ⊢ (owns (c : Thread nD τ) oM fullShare (outC c I) : sProp 𝕄) := by
  rw [← sep_four]
  refine BIBase.Entails.trans ?_ (owns_of_rects (c : Thread nD τ) oM fullShare (rectO c) (fun _ _ => rfl) (rectO_disj c) (rectO_cov c) (outC c I))
  rw [bigSep_univ_prod]
  refine BI.bigSep_mono fun r _ => ?_
  unfold done
  show bigSep (Finset.range 8) _ ⊢ _
  rw [← sep_range]
  refine BI.bigSep_mono fun k _ => ?_
  rw [show f8 k.val = k from Fin.ext (Nat.mod_eq_of_lt k.isLt), show (fun j => outC c I ((rectO c (r, k)).emb j)) = oV I r k.val c from funext fun j => outC_emb c I (r, k) j]
  exact BI.Entails.refl _

end Cert.KernelIdeal.Body
end
-- ==== Proof.KernelIdeal.Ghost.lean ====
/- The launch's ghost resources: every cell's invariant allocated, the duties' tokens and the writes' tokens dealt to the devices that use them. -/
module

public import proofs.«01_k».proof.Proof.KernelIdeal.Split

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The cells and the tokens of the launch -/

theorem kcell_injective : Function.Injective (fun ck : Dev nD × Ck => kcell ck.1 ck.2) := by
  rintro ⟨c, k⟩ ⟨c', k'⟩ h
  have h1 : c = c' := congrArg (fun g : GSem nD τ sig => g.1.1) h
  exact Prod.ext h1 (csem_injective (congrArg Prod.snd h))
def allCells : Finset (GSem nD τ sig) := Finset.univ.map ⟨fun ck : Dev nD × Ck => kcell ck.1 ck.2, kcell_injective⟩

/-- The duties of one device's cells: on a ring the departures, the arrivals, the signals and the copies out; and the two of the handshake. -/
abbrev Tk : Type := (Fin 4 × (Fin 14 ⊕ Fin 14 ⊕ Fin 12 ⊕ Fin 8)) ⊕ Fin 2
def tokK : Tk → Ck × ℕ × ℕ
  | .inl (r, .inl h) => (.send r (par h.val), h.val / 2, 0)
  | .inl (r, .inr (.inl h)) => (.recv r (par h.val), h.val / 2, 0)
  | .inl (r, .inr (.inr (.inl k))) => (.cred r, 0, k.val)
  | .inl (r, .inr (.inr (.inr k))) => (.out r, k.val, 0)
  | .inr d => (.bar, 0, d.val)

theorem par_half_inj {a b : ℕ} (h : par a = par b) (h' : a / 2 = b / 2) : a = b := by
  have := congrArg Fin.val h
  have : a % 2 = b % 2 := this
  omega

theorem tokK_injective : Function.Injective tokK := by
  rintro (⟨r, h | h | h | h⟩ | d) (⟨r', h' | h' | h' | h'⟩ | d') e <;>
    simp only [tokK, Prod.mk.injEq, Ck.send.injEq, Ck.recv.injEq, Ck.cred.injEq, Ck.out.injEq, reduceCtorEq, false_and, true_and, and_true] at e
  · obtain ⟨⟨rfl, e⟩, e'⟩ := e; rw [Fin.ext (par_half_inj e e')]
  · obtain ⟨⟨rfl, e⟩, e'⟩ := e; rw [Fin.ext (par_half_inj e e')]
  · obtain ⟨rfl, e⟩ := e; rw [Fin.ext e]
  · obtain ⟨rfl, e⟩ := e; rw [Fin.ext e]
  · rw [Fin.ext e]

def tokOf (ct : Dev nD × Tk) : GSem nD τ sig × ℕ × ℕ := (kcell ct.1 (tokK ct.2).1, (tokK ct.2).2)
theorem tokOf_injective : Function.Injective tokOf := by
  rintro ⟨c, t⟩ ⟨c', t'⟩ h
  have h1 : kcell c (tokK t).1 = kcell c' (tokK t').1 := congrArg Prod.fst h
  have h2 := kcell_injective (a₁ := (c, _)) (a₂ := (c', _)) h1
  have h3 : (tokK t).2 = (tokK t').2 := congrArg (fun x : GSem nD τ sig × ℕ × ℕ => x.2) h
  exact Prod.ext (congrArg (fun x : Dev nD × Ck => x.1) h2) (tokK_injective (Prod.ext (congrArg (fun x : Dev nD × Ck => x.2) h2) h3))
def allToks : Finset (GSem nD τ sig × ℕ × ℕ) := Finset.univ.map ⟨tokOf, tokOf_injective⟩

/-! ## A device's cells ring by ring -/

def ckOf (p : Fin 4 × Fin 6) : Ck := match p.2 with
  | 0 => .send p.1 0 | 1 => .send p.1 1 | 2 => .recv p.1 0 | 3 => .recv p.1 1 | 4 => .cred p.1 | 5 => .out p.1
theorem ckOf_injective : Function.Injective ckOf := by decide +kernel

abbrev six (r : Fin 4) (Φ : Ck → sProp 𝕄) : sProp 𝕄 := iprop(Φ (.send r 0) ∗ Φ (.send r 1) ∗ Φ (.recv r 0) ∗ Φ (.recv r 1) ∗ Φ (.cred r) ∗ Φ (.out r))

theorem sep_ckOf (Φ : Ck → sProp 𝕄) : (bigSep Finset.univ fun p : Fin 4 × Fin 6 => Φ (ckOf p)) = bigSep Finset.univ fun r : Fin 4 => six r Φ := by
  rw [bigSep_univ_prod]
  exact bigSep_congr fun r _ => (bigSep_univ_eq_bigSepL [0, 1, 2, 3, 4, 5] (by decide) (by decide) _).trans rfl
theorem sep_ck (Φ : Ck → sProp 𝕄) : bigSep Finset.univ Φ = iprop(Φ .bar ∗ bigSep Finset.univ fun r : Fin 4 => six r Φ) := by
  rw [← sep_ckOf, show (Finset.univ : Finset Ck) = insert .bar (Finset.univ.map ⟨ckOf, ckOf_injective⟩) from by decide +kernel, bigSep_insert (by decide +kernel), bigSep_map]
  rfl

/-- The semaphores of the kernel's own. -/
def osem (p : Fin 4 × Fin 6) : SemLoc sig := csem (ckOf p)

/-! ## The tokens of the two ends -/

def tS (c : Dev nD) (r : Fin 4) : sProp 𝕄 := bigSep (Finset.Ico 0 14) fun h => dutyTok ER (kcell c (.send r (par h))) (h / 2) 0
def tR (c : Dev nD) (r : Fin 4) : sProp 𝕄 := bigSep (Finset.Ico 0 14) fun h => dutyTok ER (kcell c (.recv r (par h))) (h / 2) 0
def tC (c : Dev nD) (r : Fin 4) : sProp 𝕄 := bigSep (Finset.Ico 0 12) fun k => dutyTok ER (kcell c (.cred r)) 0 k
def tO (c : Dev nD) (r : Fin 4) : sProp 𝕄 := bigSep (Finset.Ico 0 8) fun k => dutyTok ER (kcell c (.out r)) k 0
def tW (c : Dev nD) (r : Fin 4) : sProp 𝕄 := bigSep (Finset.Ico 0 14) fun h => writeTok ES (c, r, par h) (h / 2 + 1)
def tB (c : Dev nD) (d : ℕ) : sProp 𝕄 := dutyTok ER (kcell c .bar) 0 d
def rD (c : Dev nD) (r : Fin 4) : sProp 𝕄 := iprop(readerAt ES (c, r, (0 : Fin 2)) 0 ∗ readerAt ES (c, r, (1 : Fin 2)) 0)

/-- The tokens of a device's own cells. -/
def toks (c : Dev nD) : sProp 𝕄 :=
  iprop((bigSep Finset.univ fun r => iprop(tS (F := F) c r ∗ tR c r ∗ tC c r ∗ tO c r)) ∗ tB c 0 ∗ tB c 1)

theorem toks_eq : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  unfold toks tB tS tR tC tO
  rw [bigSep_univ_sum, bigSep_univ_prod, BI.bigSep_fin_two]
  refine congrArg₂ BI.sep (bigSep_congr fun r _ => ?_) rfl
  rw [bigSep_univ_sum, bigSep_univ_sum, bigSep_univ_sum]
  exact congrArg₂ BI.sep (sep_ico 14 (fun h => dutyTok ER (kcell c (.send r (par h))) (h / 2) 0))
    (congrArg₂ BI.sep (sep_ico 14 (fun h => dutyTok ER (kcell c (.recv r (par h))) (h / 2) 0))
      (congrArg₂ BI.sep (sep_ico 12 (fun k => dutyTok ER (kcell c (.cred r)) 0 k)) (sep_ico 8 (fun k => dutyTok ER (kcell c (.out r)) k 0))))

/-- The slots' writes listed by ring and message. -/
def wrOf (p : (Dev nD × Fin 4) × Fin 14) : Key × ℕ := ((p.1.1, p.1.2, par p.2.val), p.2.val / 2)
theorem wrOf_injective : Function.Injective wrOf := by
  rintro ⟨⟨c, r⟩, h⟩ ⟨⟨c', r'⟩, h'⟩ e
  simp only [wrOf, Prod.mk.injEq] at e
  obtain ⟨⟨rfl, rfl, e⟩, e'⟩ := e
  rw [Fin.ext (par_half_inj e e')]
theorem wrOf_all : (Finset.univ : Finset Key) ×ˢ Finset.range 7 = Finset.univ.map ⟨wrOf, wrOf_injective⟩ := by
  ext ⟨⟨c, r, j⟩, n⟩
  simp only [Finset.mem_product, Finset.mem_univ, true_and, Finset.mem_range, Finset.mem_map, Function.Embedding.coeFn_mk]
  constructor
  · intro hn
    refine ⟨((c, r), ⟨2 * n + j.val, by have := j.isLt; omega⟩), ?_⟩
    have hj := j.isLt
    simp only [wrOf, Prod.mk.injEq, true_and]
    exact ⟨Fin.ext (by show (2 * n + j.val) % 2 = j.val; omega), by omega⟩
  · rintro ⟨⟨⟨c', r'⟩, h⟩, e⟩
    have := congrArg Prod.snd e
    have e2 : h.val / 2 = n := this
    have := h.isLt
    omega

theorem writes_eq : (bigSep ((Finset.univ : Finset Key) ×ˢ Finset.range 7) fun x => (writeTok ES x.1 (x.2 + 1) : sProp 𝕄))
    = bigSep Finset.univ fun c : Dev nD => bigSep Finset.univ fun r => tW c r := by
  rw [wrOf_all, bigSep_map, bigSep_univ_prod, bigSep_univ_prod]
  exact bigSep_congr fun c _ => bigSep_congr fun r _ => sep_ico 14 (fun h => writeTok ES (c, r, par h) (h / 2 + 1))

theorem readers_eq : (bigSep (Finset.univ : Finset Key) fun k => (readerAt ES k 0 : sProp 𝕄))
    = bigSep Finset.univ fun c : Dev nD => bigSep Finset.univ fun r => rD c r := by
  rw [bigSep_univ_prod]
  refine bigSep_congr fun c _ => ?_
  rw [bigSep_univ_prod]
  exact bigSep_congr fun r _ => BI.bigSep_fin_two _

/-! ## The launch element -/

variable (I : Inp F)

def slots : sProp 𝕄 := iprop(∃ ι : Key → ℕ, bigSep Finset.univ fun k : Key => slotInv ES (ι k) k (slotP k))
instance slots_persistent : BI.Persistent (slots (F := F)) := by unfold slots; infer_instance

/-- What the launch element deals device `c`. -/
def Dealt (c : Dev nD) : sProp 𝕄 :=
  iprop((bigSep Finset.univ fun k : Ck => roundState ER (Rd I) (kcell c k) 0) ∗ (bigSep Finset.univ fun k : Ck => atPos ER (kcell c k) 0 ∅ 0)
    ∗ (bigSep Finset.univ fun k : Ck => reached ER (kcell c k) 0) ∗ toks c ∗ slots ∗ (bigSep Finset.univ fun r => rD c r) ∗ (bigSep Finset.univ fun r => tW c r))

def u₀ : UU :=
  (initOf (Pipeline.cells cfgs cellOf_inj) (Pipeline.launchToks cfgs cellOf_inj), (initOf allCells allToks, initSlots Finset.univ 7))

theorem fund_all : iprop(BI.own (ER (initOf allCells allToks)) ∗ BI.own (ES (initSlots Finset.univ 7))) ⊢ (|={Set.univ}=> bigSep Finset.univ (Dealt I) : sProp 𝕄) := by
  have hX (Φ : GSem nD τ sig → sProp 𝕄) : bigSep allCells Φ = bigSep Finset.univ fun c : Dev nD => bigSep Finset.univ fun k : Ck => Φ (kcell c k) := by
    unfold allCells; rw [bigSep_map, bigSep_univ_prod]; rfl
  iintro ⟨HX, HS⟩
  imod (Rounds.fund ER (Rd I) allCells allToks) $$ HX with ⟨Hst, Hr, Hat, Htok⟩
  imod (slots_init ES (Finset.univ : Finset Key) 7 slotP) $$ HS with ⟨%ι, -, #Hsl, Hrd, Hwr⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq toks_eq) $$ Htok
  ihave Hrd' := (Entails.of_eq readers_eq) $$ Hrd
  ihave Hwr' := (Entails.of_eq writes_eq) $$ Hwr
  unfold Dealt; simp only [bigSep_sep']
  iframe Hst' Hat' Hr' Htok' Hrd' Hwr'
  iapply (BI.bigSep_of_persistent Finset.univ (slots (F := F)))
  unfold slots; iexists ι; iexact Hsl

theorem fund : (ownU u₀ : sProp 𝕄)
    ⊢ |={Set.univ}=> iprop(BI.own (EP (initOf (Pipeline.cells cfgs cellOf_inj) (Pipeline.launchToks cfgs cellOf_inj))) ∗ bigSep Finset.univ (Dealt I)) := by
  unfold u₀
  iintro Hu
  ihave H := (ownU_pair _ _) $$ Hu
  icases H with ⟨HP, HX⟩
  ihave H := (own_pair_emb (embR : Emb (UC × USlots Key) (MT nD τ sig ℕ (Elt F) ℕ UU ℕ)) _ _) $$ HX
  imod (fund_all I) $$ H with HG
  imodintro
  isplitl [HP] <;> iassumption

/-! ## The global step -/

/-- What stays with device `c` of the tokens: those of the duties it pays and the writes it makes. -/
def Lin (c : Dev nD) : sProp 𝕄 :=
  iprop((bigSep Finset.univ fun r => iprop(tS (F := F) c r ∗ tR (toD r c) r ∗ tW (toD r c) r ∗ tC (fromD r c) r ∗ tO c r ∗ rD c r)) ∗ tB (leftD c) 0 ∗ tB (rightD c) 1
    ∗ bigSep Finset.univ fun k : Ck => atPos ER (kcell c k) 0 ∅ 0)

/-- The devices that a ring sends to, in turn. -/
def toE (r : Fin 4) : Dev nD ≃ Dev nD := ⟨toD r, fromD r, from_to r, to_from r⟩
def leftE : Dev nD ≃ Dev nD := ⟨leftD, rightD, right_left, left_right⟩

theorem around (e : Fin 4 → Dev nD ≃ Dev nD) (A : Dev nD → Fin 4 → sProp 𝕄) :
    (bigSep Finset.univ fun c : Dev nD => bigSep Finset.univ fun r => A c r) = bigSep Finset.univ fun c : Dev nD => bigSep Finset.univ fun r => A (e r c) r := by
  rw [BI.bigSep_univ_comm, BI.bigSep_univ_comm (fun (c : Dev nD) r => A (e r c) r)]
  exact bigSep_congr fun r _ => bigSep_univ_equiv (e r) fun c => A c r

theorem toks_around :
    iprop((bigSep Finset.univ fun c : Dev nD => toks (F := F) c) ∗ (bigSep Finset.univ fun c : Dev nD => bigSep Finset.univ fun r => rD (F := F) c r)
        ∗ (bigSep Finset.univ fun c : Dev nD => bigSep Finset.univ fun r => tW (F := F) c r) ∗ bigSep Finset.univ fun c : Dev nD => bigSep Finset.univ fun k : Ck => atPos ER (kcell c k) 0 ∅ 0)
      ⊢ (bigSep Finset.univ Lin : sProp 𝕄) := by
  unfold toks Lin
  simp only [bigSep_sep']
  iintro ⟨⟨⟨HS, HR, HC, HO⟩, HB0, HB1⟩, Hrd, HW, Hat⟩
  isplitr [HB0 HB1 Hat]
  · isplitl [HS]; · iexact HS
    isplitl [HR]; · iapply (Entails.of_eq (around toE tR)); iexact HR
    isplitl [HW]; · iapply (Entails.of_eq (around toE tW)); iexact HW
    isplitl [HC]; · iapply (Entails.of_eq (around (fun r => (toE r).symm) tC)); iexact HC
    isplitl [HO]; · iexact HO
    iexact Hrd
  isplitl [HB0]; · iapply (Entails.of_eq (bigSep_univ_equiv leftE fun c => tB (F := F) c 0)); iexact HB0
  isplitl [HB1]; · iapply (Entails.of_eq (bigSep_univ_equiv leftE.symm fun c => tB (F := F) c 1)); iexact HB1
  iexact Hat

/-- What the global step gives device `c`. -/
def Start0 (c : Dev nD) : sProp 𝕄 :=
  iprop((∃ K : Dev nD × Ck → ℕ, ∃ ι : Key → ℕ, (bigSep Finset.univ fun ck : Dev nD × Ck => cellInv ER (Rd I) (K ck) (kcell ck.1 ck.2))
    ∗ (bigSep Finset.univ fun k : Key => slotInv ES (ι k) k (slotP k))
    ∗ (bigSep Finset.univ fun ck : Dev nD × Ck => reached ER (kcell ck.1 ck.2) 0)) ∗ Lin c)

theorem ownSems_eq (c : Dev nD) : (Pipeline.ownSems0 (Ix := ℕ) (Name := ℕ) (U := UU) (Lvl := ℕ) (Val := Elt F) (τ := τ) osem c : sProp 𝕄)
    = bigSep Finset.univ fun r : Fin 4 => six r fun k => semVal (kcell c k) 0 := sep_ckOf fun k => semVal (kcell c k) 0
theorem unscopedSems_eq (c : Dev nD) : (unscopedSems0 c : sProp 𝕄) = semVal (kcell c .bar) 0 := by
  unfold unscopedSems0; rw [bigSep_eq_bigSepL_of_eq [SemLoc.reg barS] (by decide) (by decide)]; rfl

theorem core_alloc (c : Dev nD) :
    iprop(Pipeline.ownSems0 (Ix := ℕ) (Name := ℕ) (U := UU) (Lvl := ℕ) (Val := Elt F) (τ := τ) osem c ∗ unscopedSems0 c ∗ Dealt I c)
      ⊢ |={Set.univ}=> iprop((bigSep Finset.univ fun k : Ck => iprop(∃ κ : ℕ, cellInv ER (Rd I) κ (kcell c k)))
          ∗ (bigSep Finset.univ fun k : Ck => atPos ER (kcell c k) 0 ∅ 0) ∗ (bigSep Finset.univ fun k : Ck => reached ER (kcell c k) 0)
          ∗ toks c ∗ slots ∗ (bigSep Finset.univ fun r => rD c r) ∗ (bigSep Finset.univ fun r => tW c r)) := by
  rw [ownSems_eq, unscopedSems_eq]
  unfold Dealt
  iintro ⟨Hos, Hus, Hst, Hat, Hr, Htok, Hsl, Hrd, Hwr⟩
  ihave Hv := (Entails.of_eq (sep_ck fun k => semVal (kcell c k) 0).symm) $$ [Hos Hus]
  · isplitl [Hus] <;> iassumption
  imod (show iprop((bigSep Finset.univ fun k : Ck => semVal (kcell c k) 0) ∗ bigSep Finset.univ fun k : Ck => roundState ER (Rd I) (kcell c k) 0)
      ⊢ (|={Set.univ}=> bigSep Finset.univ fun k : Ck => iprop(∃ κ : ℕ, cellInv ER (Rd I) κ (kcell c k)) : sProp 𝕄) from by
        rw [← bigSep_sep']
        exact (bigSep_mono fun k _ => (Rounds.body_intro ER (Rd I) (kcell c k)).trans inv_alloc).trans (bigSep_fupd _ _)) $$ [Hv Hst] with Hinv
  · isplitl [Hv] <;> iassumption
  imodintro
  iframe Hinv Hat Hr Htok Hsl Hrd Hwr

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Ck => iprop(∃ κ : ℕ, cellInv ER (Rd I) κ (kcell c k)))
          ∗ (bigSep Finset.univ fun k : Ck => atPos ER (kcell c k) 0 ∅ 0) ∗ (bigSep Finset.univ fun k : Ck => reached ER (kcell c k) 0)
          ∗ toks c ∗ slots ∗ (bigSep Finset.univ fun r => rD c r) ∗ (bigSep Finset.univ fun r => tW c r)) : sProp 𝕄)
      ⊢ bigSep Finset.univ (Start0 I) := by
  simp only [bigSep_sep']
  rw [← bigSep_univ_prod (fun ck : Dev nD × Ck => iprop(∃ κ : ℕ, cellInv ER (Rd I) κ (kcell ck.1 ck.2))),
    ← bigSep_univ_prod (fun ck : Dev nD × Ck => (reached ER (kcell ck.1 ck.2) 0 : sProp 𝕄))]
  iintro ⟨HI, Hat, #HR, Htok, Hsl, Hrd, Hwr⟩
  ihave HK := (BI.bigSep_exists_pi Finset.univ (fun (ck : Dev nD × Ck) (κ : ℕ) => (cellInv ER (Rd I) κ (kcell ck.1 ck.2) : sProp 𝕄))) $$ HI
  icases HK with ⟨%K, #HI⟩
  ihave Hs := (show (bigSep Finset.univ fun _ : Dev nD => slots (F := F)) ⊢ slots from bigSep_elim (Finset.mem_univ (0 : Dev nD))) $$ Hsl
  unfold slots
  icases Hs with ⟨%ι, #Hs⟩
  ihave HL := (toks_around (F := F)) $$ [Htok Hrd Hwr Hat]
  · iframe Htok Hrd Hwr Hat
  iapply (with_persistent (R := iprop(∃ K : Dev nD × Ck → ℕ, ∃ ι : Key → ℕ, (bigSep Finset.univ fun ck : Dev nD × Ck => cellInv ER (Rd I) (K ck) (kcell ck.1 ck.2))
    ∗ (bigSep Finset.univ fun k : Key => slotInv ES (ι k) k (slotP k))
    ∗ (bigSep Finset.univ fun ck : Dev nD × Ck => reached ER (kcell ck.1 ck.2) 0))) (Φ := Lin) (Ψ := Start0 I) fun c _ => BI.Entails.refl _)
  isplitr
  · iexists K; iexists ι
    isplitr; · iexact HI
    isplitr; · iexact Hs
    iexact HR
  iexact HL

/-- The global step: every device's semaphores and tokens at once. -/
theorem glob : (bigSep Finset.univ fun c => iprop(Pipeline.ownSems0 (Ix := ℕ) (Name := ℕ) (U := UU) (Lvl := ℕ) (Val := Elt F) (τ := τ) osem c ∗ unscopedSems0 c ∗ Dealt I c) : sProp 𝕄)
    ⊢ |={Set.univ}=> bigSep Finset.univ (Start0 I) :=
  ((bigSep_mono fun c _ => core_alloc I c).trans (bigSep_fupd _ _)).trans (BI.fupd_mono (regroup I))

end Cert.KernelIdeal.Body
end
-- ==== Proof.KernelIdeal.BodyEq.lean ====
/- The printed body is the run of the operations' list. -/
module

public import proofs.«01_k».proof.Proof.KernelIdeal.Ops
public import proofs.«01_k».proof.Proof.Gen.KernelIdeal.Launch

@[expose] public section

noncomputable section

namespace Cert.KernelIdeal.Body

open Idealize.ShloMosaic Idealize.SL.Sem Cert.KernelIdeal Cert.KernelIdeal.Gen

variable {F : FTy → Type} [FloatOps F]

set_option maxRecDepth 65536 in
/-- The printed body is this one. -/
theorem body_eq : bodyAt0 (F := F) t0_0 = whole (F := F) := by
  chain_rfl

end Cert.KernelIdeal.Body
-- ==== Proof.KernelIdeal.Launch.lean ====
/- The launch: the credit of every payment owed, the kernel's body between what the launch gives and what it takes back, and the run of the program. -/
module

public import proofs.«01_k».proof.Proof.KernelIdeal.Ghost
public import proofs.«01_k».proof.Proof.KernelIdeal.BodyEq
public import proofs.«01_k».proof.Proof.Gen.KernelIdeal.Frame
public import Idealize.ShloMosaic.Lib.Pipeline.TalkSched
public import Idealize.ShloMosaic.Lib.Pipeline.BigSepL

@[expose] public section

set_option maxRecDepth 8000

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

open Idealize.ShloMosaic.Pipeline (Dat Cfg Window BodyObligation cellOf)

/-! ## The launch credit -/

/-- All the payments of a device, in order. -/
def allPays : List Pay := .barL :: .barR :: pays

/-- The payments on a ring. -/
def ringPays (r : Fin 4) : List Pay := (List.range 14).map (Pay.send r) ++ (List.range 12).map (Pay.crd r)

theorem allPays_perm : allPays.Perm (.barL :: .barR :: rings.flatMap ringPays) := by decide +kernel
theorem allPays_nodup : allPays.Nodup := by decide +kernel

variable (c : Dev nD)

def Pay.src : Pay → Dev nD → Dev nD
  | .barL => rightD
  | .barR => leftD
  | .send r _ => fromD r
  | .crd r _ => toD r
theorem Pay.dst_src : ∀ (p : Pay) (c : Dev nD), p.dst (p.src c) = c
  | .barL, c => left_right c
  | .barR, c => right_left c
  | .send r _, c => to_from r c
  | .crd r _, c => from_to r c
theorem Pay.src_dst : ∀ (p : Pay) (c : Dev nD), p.src (p.dst c) = c
  | .barL, c => right_left c
  | .barR, c => left_right c
  | .send r _, c => from_to r c
  | .crd r _, c => to_from r c

/-- What a device is credited for a payment that another owes it. -/
abbrev due (p : Pay) : sProp 𝕄 := cred (tallyAt (kcell c p.kind) p.idx p.amt)

theorem cred_list (l : List Pay) : (Pipeline.launchCred (fun d => owed d l) c : sProp 𝕄) ⊢ bigSepL l (due c) := by
  induction l with
  | nil => exact Entails.of_eq (Pipeline.launchCred_zero c)
  | cons p l ih =>
    rw [bigSepL_cons']
    refine (Entails.of_eq (Pipeline.launchCred_add (fun d => owed d l) (fun d => p.tally d) c)).trans ?_
    iintro ⟨Hl, Hp⟩
    isplitl [Hp]
    · iapply (Pipeline.launchCred_tallyAt (csem p.kind) p.dst p.src p.dst_src p.src_dst p.idx p.amt c); iexact Hp
    · iapply ih; iexact Hl

theorem range_list (n : ℕ) (A : ℕ → sProp 𝕄) : bigSepL (List.range n) A = bigSep (Finset.Ico 0 n) A :=
  (bigSep_eq_bigSepL_of_eq (List.range n) (by ext x; simp) List.nodup_range A).symm

/-- What a device is credited at launch. -/
def Creds : sProp 𝕄 :=
  iprop(cred (tallyAt (kcell c .bar) 0 2) ∗ bigSep Finset.univ fun r : Fin 4 => iprop(bigSep (Finset.Ico 0 14) (recvRes (F := F) c r) ∗ bigSep (Finset.Ico 0 12) (cwRes c r)))

theorem ring_creds (r : Fin 4) : bigSepL (ringPays r) (due (F := F) c) = iprop(bigSep (Finset.Ico 0 14) (recvRes (F := F) c r) ∗ bigSep (Finset.Ico 0 12) (cwRes c r)) := by
  unfold ringPays
  rw [bigSepL_append, bigSepL_map, bigSepL_map, range_list, range_list]
  rfl

theorem creds : (Pipeline.launchCred (fun d => owed d allPays) c : sProp 𝕄) ⊢ Creds c := by
  refine (cred_list c allPays).trans ?_
  rw [TalkSites.bigSepL_perm allPays_perm allPays_nodup, bigSepL_cons', bigSepL_cons']
  unfold Creds
  simp only [sep_four, Four, ← ring_creds]
  rw [show rings.flatMap ringPays = ringPays 0 ++ (ringPays 1 ++ (ringPays 2 ++ ringPays 3)) from by decide +kernel, bigSepL_append, bigSepL_append, bigSepL_append]
  iintro ⟨H1, H2, H⟩
  isplitl [H1 H2]
  · rw [show tallyAt (kcell c .bar) 0 2 = tallyAt (kcell c .bar) 0 1 + tallyAt (kcell c .bar) 0 1 from (tallyAt_add _ _ 1 1).symm]
    iapply (cred_add _ _).2
    isplitl [H1]; · iexact H1
    iexact H2
  iexact H

/-! ## The proof data -/

variable (m : (ℓ : Loc nD τ sig) → Buf (Elt F) ℓ) (ρ : Dev nD → PrngReg)

/-- The two scales as staged. -/
def st2 (c : Dev nD) : aM2.view.ty.Contents (Elt F) := iblk m c 2 t0_0
def st3 (c : Dev nD) : aM3.view.ty.Contents (Elt F) := iblk m c 3 t0_0

/-- What the devices are given by the memory at launch. -/
def inp : Inp F where
  x c := iblk m c 0 t0_0
  w c := iblk m c 1 t0_0
  s c := k0_pay1 (sc2 (st2 m c)) (sc3 (st3 m c))

/-- What a device starts with besides its scratch pages. -/
def start (c : Dev nD) : sProp 𝕄 :=
  iprop((∃ K : Dev nD × Ck → ℕ, ∃ ι : Key → ℕ, recs (inp m) K ι) ∗ Lin c ∗ Creds c ∗ Four fun r => bigSep (Finset.Ico 0 8) (anyO c r))

def Φ₀ (c : Dev nD) : sProp 𝕄 := iprop(start m c ∗ Four (pages c))
/-- What it ends with: the result's array at its contents, the pages, every semaphore at zero. -/
def Φ₁ (c : Dev nD) : sProp 𝕄 :=
  iprop(owns (c : Thread nD τ) oM fullShare (outC c (inp m)) ∗ Four (pages c) ∗ (bigSep Finset.univ fun r : Fin 4 => six r fun k => semVal (kcell c k) 0) ∗ semVal (kcell c .bar) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => iblk m c 0 t0_0
    | ⟨1, _⟩ => iblk m c 1 t0_0
    | ⟨2, _⟩ => iblk m c 2 t0_0
    | ⟨3, _⟩ => iblk m c 3 t0_0
  Φ t := match t with
    | ⟨0, _⟩ => Φ₀ m c
    | ⟨_ + 1, _⟩ => Φ₁ m c
  q _ := fullShare
  owed t := match t with
    | ⟨0, _⟩ => owed c allPays
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- Four rings' holdings to begin with. -/
theorem own_intro : iprop(Lin c ∗ (bigSep Finset.univ fun r : Fin 4 => iprop(bigSep (Finset.Ico 0 14) (recvRes (F := F) c r) ∗ bigSep (Finset.Ico 0 12) (cwRes c r)))
      ∗ (Four fun r => bigSep (Finset.Ico 0 8) (anyO c r)) ∗ Four (pages c))
    ⊢ iprop(Four (Own0 (F := F) c) ∗ at0 c .bar ∗ dutyTok ER (kcell (leftD c) .bar) 0 0 ∗ dutyTok ER (kcell (rightD c) .bar) 0 1) := by
  unfold Lin tB
  rw [sep_ck (fun k => atPos ER (kcell c k) 0 ∅ 0), ← sep_four, ← sep_four (pages c), ← sep_four (Own0 c)]
  unfold pages Own0 rem outs tS tR tW tC tO rD sendRes sigRes outRes
  simp only [bigSep_sep']
  iintro ⟨⟨⟨HS, HR, HW, HC, HO, Hd0, Hd1⟩, HL, HRt, Hb, Ha0, Ha1, Ha2, Ha3, Ha4, Ha5⟩, ⟨Hrc, Hcw⟩, Hao, HpA, HpS, HpR0, HpR1⟩
  iframe HS HR HW HC HO Hd0 Hd1 HL HRt Hb Ha0 Ha1 Ha2 Ha3 Ha4 Ha5 Hrc Hcw Hao HpA HpS HpR0 HpR1

theorem own_elim (I : Inp F) : iprop(Four (Own2 I c) ∗ semVal (kcell c .bar) 0)
    ⊢ (iprop(owns (c : Thread nD τ) oM fullShare (outC c I) ∗ Four (pages c) ∗ (bigSep Finset.univ fun r : Fin 4 => six r fun k => semVal (kcell c k) 0) ∗ semVal (kcell c .bar) 0) : sProp 𝕄) := by
  rw [← sep_four (pages c), ← sep_four (Own2 I c)]
  unfold pages Own2 six
  simp only [bigSep_sep']
  iintro ⟨⟨HpA, HpS, HpR0, HpR1, Hd, Ha0, Ha1, Ha2, Ha3, Ha4, Ha5⟩, Hb⟩
  isplitl [Hd]
  · iapply (out_close c I); rw [← sep_four]; iexact Hd
  iframe HpA HpS HpR0 HpR1 Ha0 Ha1 Ha2 Ha3 Ha4 Ha5 Hb

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt 0 t0_0.succ
    ∗ stg c cc0_stg0_0 (iblk m c 0 t0_0) ∗ stg c cc0_stg1_0 (iblk m c 1 t0_0) ∗ stg c cc0_stg2_0 (iblk m c 2 t0_0) ∗ stg c cc0_stg3_0 (iblk m c 3 t0_0))

theorem before_eq (w : Fin cfg0.W) (hw : ∀ t, (cfg0.win w).fetch t = true) (d) : (dats m ρ 0 c).before w t0_0 d = (dats m ρ 0 c).fetched w t0_0 d := by
  unfold Dat.before; rw [if_pos (hw t0_0)]

theorem sound_body (c : Dev nD) : bodyPre m ρ c ⊢ WP c (bodyAt0 (F := F) t0_0) (fun _ => bodyPost m ρ c) := by
  rw [body_eq]
  unfold bodyPre Φ₀ start
  iintro ⟨⟨⟨⟨%K, %ι, #HR⟩, HL, HC, HO⟩, HP⟩, Ho, ⟨%d0, %g0, %hg0, Hx⟩, ⟨%d1, %g1, %hg1, Hw⟩, ⟨%d2, %g2, %hg2, H2⟩, ⟨%d3, %g3, %hg3, H3⟩⟩
  have h0 : g0 = iblk m c 0 t0_0 := by rw [hg0, before_eq c m ρ 0 fetch0_0]; rfl
  have h1 : g1 = iblk m c 1 t0_0 := by rw [hg1, before_eq c m ρ 1 fetch0_1]; rfl
  have h2 : g2 = iblk m c 2 t0_0 := by rw [hg2, before_eq c m ρ 2 fetch0_2]; rfl
  have h3 : g3 = iblk m c 3 t0_0 := by rw [hg3, before_eq c m ρ 3 fetch0_3]; rfl
  subst h0 h1 h2 h3
  unfold Dat.owesAt Pipeline.owesWithin
  icases Ho with ⟨%W, %hW, Ho⟩
  rw [show (dats m ρ 0 c).owed t0_0.castSucc = owed c allPays from rfl]
  unfold Creds
  icases HC with ⟨Hcb, HC⟩
  ihave Hown := (own_intro (F := F) c) $$ [HL HC HO HP]
  · iframe HL HC HO HP
  icases Hown with ⟨H4, Hat, HtL, HtR⟩
  iapply (wp_body (inp m) K ι c (fun _ => bodyPost m ρ c) (st2 m c) (st3 m c) rfl) $$ [Ho Hx Hw H2 H3 Hcb H4 Hat HtL HtR]
  · isplitr; · iexact HR
    unfold bodyIn
    isplitl [Ho]; · unfold Ow; iexists W; iexact Ho
    isplitl [Hx Hw]
    · unfold xwP
      isplitl [Hx]; · iexact Hx
      iexact Hw
    isplitl [H2]; · iexact H2
    isplitl [H3]; · iexact H3
    iframe H4 Hat HtL HtR Hcb
  iintro H
  unfold bodyOut Ow xwP bodyPost
  icases H with ⟨⟨%W', HO⟩, ⟨Hx, Hw⟩, H2, H3, H4, Hb⟩
  isplitl [H4 Hb]
  · unfold Φ₁
    iapply (own_elim c (inp m))
    iframe H4 Hb
  isplitl [HO]
  · unfold Dat.owesAt Pipeline.owesWithin
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [H2]
  · iexists _; isplitr; · (ipureintro; rfl)
    iexact H2
  iexists _; isplitr; · (ipureintro; rfl)
  iexact H3

theorem sep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem body_at : defs₀ (F := F) Proc.tc 0 (t0_0, cfg0.slots t0_0) = bodyAt0 t0_0 := rfl

/-- The body meets what the launch asks of it. -/
theorem body_obligation (c : Dev nD) : BodyObligation (dats (F := F) m ρ 0 c) (defs₀ (F := F)) 𝒱₀ 0 Set.univ := fun t => by
  rw [fin_N0 t]
  rw [sep_W, sep_W]
  simp only [owns_whole_eq]
  rw [body_at]
  generalize hb : bodyAt0 (F := F) t0_0 = b
  have h := sound_body m ρ c
  rw [hb] at h
  exact h

end Cert.KernelIdeal.Body
end
-- ==== Proof.KernelIdeal.Run.lean ====
/- The run of the program: every device ends with its result at `outC`, its arguments as they were and every semaphore at zero. -/
module

public import proofs.«01_k».proof.Proof.KernelIdeal.Launch
public import Idealize.ShloMosaic.Lib.Pipeline.CollectiveSegs

@[expose] public section

set_option maxRecDepth 8000

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by
  unfold Dat.share; split <;> rfl

/-- What the memory, the levels, the credit and the launch resources give a device to start with. -/
theorem launch_intro (c : Dev nD) :
    iprop(Pipeline.unscopedRestP Pipeline.Prefetch.none cfg0.spec c (fun b => m ((c : Thread nD τ).loc b)) ∗ levAts L lv
        ∗ Pipeline.launchCred (fun d => owed d allPays) c ∗ prngReg c (ρ c) ∗ Start0 (inp m) c)
      ⊢ |={Set.univ}=> iprop(start m c ∗ emp) := by
  rw [Pipeline.unscopedRestP_none, unscopedRest0_eq]
  unfold Start0
  iintro ⟨Hbuf, #Hlev, Hcr, -, ⟨%K, %ι, #HI, #HS, #HR⟩, HL⟩
  ihave Hc := (creds (F := F) c) $$ Hcr
  ihave Hb := ((Entails.of_eq (owns_whole (c : Thread nD τ) main_v1 fullShare (m ((c : Thread nD τ).loc main_v1))).symm).trans (out_open c _)) $$ Hbuf
  imodintro
  unfold start
  isplitl
  · isplitr
    · iexists K; iexists ι
      unfold recs
      isplitr; · iexact HI
      isplitr; · iexact HS
      isplitr; · iexact HR
      iexact Hlev
    isplitl [HL]; · iexact HL
    isplitl [Hc]; · iexact Hc
    iexact Hb
  · iempintro

theorem scoped_eq (c : Dev nD) : (Pipeline.scopedRest cfg0.spec c : sProp 𝕄) = iprop(anyM (F := F) c sM ∗ anyM c rM ∗ anyM c aM) := by
  rw [scopedRest0_eq, any_whole, any_whole, any_whole]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scoped_eq]
  unfold Φ₀
  iintro ⟨Hs, -, Hr⟩
  isplitl [Hs]; · iexact Hs
  iapply (scratch_open c); iexact Hr

/-- What a device leaves: the unscoped semaphores at zero and the result's array. -/
def left (c : Dev nD) : sProp 𝕄 := iprop(unscopedSems0 c ∗ (((c : Thread nD τ).loc main_v1) ↦{fullShare} outC c (inp m)))

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scoped_eq, ownSems_eq]
  unfold Φ₁ left
  rw [unscopedSems_eq, show (owns (c : Thread nD τ) oM fullShare (outC c (inp m)) : sProp 𝕄) = _ from owns_whole (c : Thread nD τ) main_v1 fullShare (outC c (inp m))]
  iintro ⟨Hr, HP, Hz, HzB⟩
  isplitl [Hr HzB]
  · isplitl [HzB]; · iexact HzB
    iexact Hr
  isplitl [Hz]; · iexact Hz
  iapply (scratch_close c); iexact HP

theorem stage_lev : ∀ (w : Fin 4) (s : Fin (cfg0.spec w).nbuf) (c : Dev nD), lv ((c : Thread nD τ), .dma ((cfg0.spec w).sem s)) 0 = 0 := by decide +kernel

theorem pays_lev : ∀ p ∈ allPays, p.idx < 14 ∧ 0 < p.lev := by decide +kernel

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait_lev c _ 0 (by decide) allPays fun p hp => ⟨(pays_lev p hp).1, lt_of_eq_of_lt (stage_lev w s c) (pays_lev p hp).2⟩
    · exact mayWait_lev c _ 0 (by decide) [] fun p hp => absurd hp List.not_mem_nil

/-- What a run from memory `m` ends with. -/
def Ends (r : PUnit × MemSt nD τ sig (Elt F)) : Prop :=
  (∀ c : Dev nD, (∀ w : Fin cfg0.W, r.2.mem ((cfg0.win w).arr.view.loc (c : Thread nD τ)) = (dats m ρ 0 c).arrAt w cfg0.N)
      ∧ r.2.mem ((c : Thread nD τ).loc main_v1) = outC c (inp m)) ∧ r.2.sem = fun _ => 0

set_option maxRecDepth 100000 in
/-- Every weakly fair execution from any memory with zero counters terminates, with the result's array of each device at
    `outC`, the windows' arrays as the pipeline leaves them and every counter at zero. -/
theorem run_ends : θ_run defs (onTc (τ := τ) (main (F := F))) (s₀ m ρ) (Ends m ρ) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owed d allPays) (howed₀ := fun _ => rfl) (howedN := fun _ => rfl)
    (L := L) (lv := lv) (hL := L_of_ne) (hwaits := waits m ρ)
    (G := Dealt (inp m)) (G' := Start0 (inp m)) (u₀ := u₀)
    (hu₀ := fund (inp m)) (hglob := glob (inp m))
    (hA := fun _ _ => rfl) (hpf := fun _ k => k.elim0)
    (X := start m) (Y := left m) (Z := fun _ => iprop(emp))
    (hX := launch_intro m ρ) (hin := phi0_intro m ρ) (hout := phi1_exit m ρ)
    (QY := fun c s => (∀ sm : SemLoc sig, sm.isScoped .tc = false → s.sem ((c.tc : Thread nD τ), sm) = 0) ∧ s.mem ((c : Thread nD τ).loc main_v1) = outC c (inp m))
    (hY := fun c s' => by
      unfold left
      iintro ⟨⟨Hu, Hb⟩, -, HSI⟩
      icombine HSI Hb gives %h
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ h⟩
      iexact HSI)
    (hQ := fun _ h hs => ⟨fun c => ⟨fun w => (h c).1 w, (h c).2.2.2⟩, sem_eq_zero hs fun c => (h c).2.2.1⟩)

theorem kept (c : Dev nD) (w : Fin cfg0.W) (h : (cfg0.win w).isOut = false) : (dats m ρ 0 c).arrAt w cfg0.N = V m c (Pipeline.arrRef spec0 w) :=
  (dats m ρ 0 c).arrAt_in w h _

/-- The run, over the program's arrays. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v1) = outC c (inp m)) ∧ r.2.sem = fun _ => 0) :=
  (θ_run defs _ _).mono (fun _ h => ⟨fun c => ⟨((h.1 c).1 0).trans ((dats m ρ 0 c).arrAt_in 0 rfl _),
      ((h.1 c).1 1).trans ((dats m ρ 0 c).arrAt_in 1 rfl _), ((h.1 c).1 2).trans ((dats m ρ 0 c).arrAt_in 2 rfl _),
      ((h.1 c).1 3).trans ((dats m ρ 0 c).arrAt_in 3 rfl _), (h.1 c).2⟩, h.2⟩) (run_ends m ρ)

end Cert.KernelIdeal.Body
end
-- ==== Proof.KernelIdeal.Value.lean ====
/- What the kernel computes over the ideal floats: every device's result is the sum over the devices of their products, scaled. -/
module

public import proofs.«01_k».proof.Proof.KernelIdeal.Split
public import Idealize.ShloMosaic.Lib.MatmulPlain
public import Idealize.ShloMosaic.Lib.Pointwise.Reshape

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

open scoped BigOperators

variable (I : Inp Ideal) (r : Fin 4)

/-- The two arguments of a device, as arrays of extended reals. -/
def xv (e : Dev nD) : S4096x512.Idx → EReal := I.x e
def wv (e : Dev nD) : S512x8192.Idx → EReal := I.w e

/-- Row `p` of device `e`'s share of `x` against column `q` of its share of `w`. -/
def dotE (e : Dev nD) (p : Fin 4096) (q : Fin 8192) : EReal :=
  ∑ k : Fin 512, xv I e (ValueIdx.ix2 p k) * wv I e (ValueIdx.ix2 k q)

/-- The row and the column of the whole result that an element of a block belongs to. -/
def rowG (c : Dev nD) (t : Fin 8) (j : S512x2048.Idx) : Fin 4096 :=
  ⟨gRow c r t.val + (j 0).val, by have := gRow_le t r c; have h : (j 0).val < 512 := (j 0).isLt; omega⟩
def colG (j : S512x2048.Idx) : Fin 8192 :=
  ⟨2048 * r.val + (j 1).val, by have h : (j 1).val < 2048 := (j 1).isLt; have := r.isLt; omega⟩

theorem dot_plain : dot_S512x512_S512x2048_S512x2048_1_0_0_1_n_n = DotDims.plain 512 512 2048 := rfl

/-- A block product, element by element. -/
theorem gV_val (t : Fin 8) (c : Dev nD) (j : S512x2048.Idx) : gV I r t c j = dotE I c (rowG r c t j) (colG r j) := by
  unfold gV dn3 k0_pay2
  simp only [shapeCast_comp, shapeCast_id, matmul, dot_plain]
  obtain ⟨a, b, rfl⟩ : ∃ (a : Fin 512) (b : Fin 2048), j = ValueIdx.ix2 a b := ⟨j 0, j 1, ValueIdx.eq_ix2 j⟩
  refine (Ideal.matmul_plain_apply none _ _ _ a b).trans ?_
  show Ideal.ofBits .f32 0x00000000#32 + _ = _
  rw [Ideal.ofBits_zero_f32, zero_add]
  unfold dotE
  refine Finset.sum_congr rfl fun k _ => ?_
  refine congrArg₂ (· * ·) ?_ ?_
  · refine congrArg (xv I c) (funext fun x => ?_)
    match x with
    | ⟨0, _⟩ => exact Fin.ext (by show gRow c r t.val + 1 * a.val = gRow c r t.val + a.val; rw [Nat.one_mul])
    | ⟨1, _⟩ => exact Fin.ext (by show 0 + 1 * k.val = k.val; omega)
  · refine congrArg (wv I c) (funext fun x => ?_)
    match x with
    | ⟨0, _⟩ => exact Fin.ext (by show 0 + 1 * k.val = k.val; omega)
    | ⟨1, _⟩ => exact Fin.ext (by show 2048 * r.val + 1 * b.val = 2048 * r.val + b.val; rw [Nat.one_mul])

/-! ## The payloads over the ideal floats -/

theorem first_msg (G : Blk Ideal .f32) (j : S512x2048.Idx) : dn3 (e := .bf16) (k0_pay3 (up3 G)) j = (G j : EReal) := by
  unfold dn3 k0_pay3 up3; simp only [shapeCast_comp, shapeCast_id]; rfl
theorem add_msg (G : Blk Ideal .f32) (M : Blk Ideal .bf16) (j : S512x2048.Idx) : dn3 (e := .bf16) (k0_pay39 (up3 G) (up4 M)) j = (G j + M j : EReal) := by
  unfold dn3 k0_pay39 up3 up4; simp only [shapeCast_comp, shapeCast_id]; rfl
theorem last_msg (s : Ideal .f32) (G : Blk Ideal .f32) (M : Blk Ideal .bf16) (j : S512x2048.Idx) :
    dn3 (e := .bf16) (k0_pay88 s (up3 G) (up4 M)) j = ((G j + M j) * s : EReal) := by
  unfold dn3 k0_pay88 k0_pay86 up3 up4; simp only [shapeCast_comp, shapeCast_id]; rfl
theorem last_out (s : Ideal .f32) (G : Blk Ideal .f32) (M : Blk Ideal .bf16) (j : S512x2048.Idx) :
    dn3 (e := .f32) (k0_pay87 s (up3 G) (up4 M)) j = ((G j + M j) * s : EReal) := by
  unfold dn3 k0_pay87 k0_pay86 up3 up4; simp only [shapeCast_comp, shapeCast_id]; rfl
theorem copy_out (M : Blk Ideal .bf16) (j : S512x2048.Idx) : dn3 (e := .f32) (k0_pay92 (up4 M)) j = (M j : EReal) := by
  unfold dn3 k0_pay92 up4; simp only [shapeCast_comp, shapeCast_id]; rfl

/-! ## Along a ring -/

/-- The device that is `n` steps back along the ring. -/
def back : ℕ → Dev nD → Dev nD
  | 0, c => c
  | n + 1, c => back n (fromD r c)

theorem row_back : ∀ (r : Fin 4) (c : Dev nD) (h : Fin 7), gRow (fromD r c) r (f8 h.val).val = gRow c r (f8 (h.val + 1)).val := by decide +kernel
theorem row_out : ∀ (r : Fin 4) (c : Dev nD) (k : Fin 8), gRow (back r k.val c) r 7 = oRow c r k.val := by decide +kernel
theorem back_inj : ∀ (r : Fin 4) (c : Dev nD), Function.Injective fun n : Fin 8 => back r n.val c := by decide +kernel

theorem rowG_back (c : Dev nD) (h : ℕ) (hh : h < 7) (j : S512x2048.Idx) : rowG r (fromD r c) (f8 h) j = rowG r c (f8 (h + 1)) j :=
  Fin.ext (by show gRow _ r _ + _ = gRow c r _ + _; rw [row_back r c ⟨h, hh⟩])

/-- A message of the first half holds the sum of the products of the devices it has passed. -/
theorem mV_sum : ∀ (h : ℕ), h ≤ 6 → ∀ (c : Dev nD) (j : S512x2048.Idx),
    (mV I r h c j : EReal) = ∑ n ∈ Finset.range (h + 1), dotE I (back r n c) (rowG r c (f8 h) j) (colG r j)
  | 0, _, c, j => by
    rw [mV, first_msg, gV_val, Finset.sum_range_one]; rfl
  | h + 1, hh, c, j => by
    rw [mV, if_pos (by omega), add_msg, gV_val, mV_sum h (by omega), Finset.sum_range_succ' _ (h + 1), add_comm, rowG_back r c h (by omega)]
    rfl

/-- The sum over all the devices. -/
def Tot (p : Fin 4096) (q : Fin 8192) : EReal := ∑ e : Dev nD, dotE I e p q

theorem all_back (c : Dev nD) (p : Fin 4096) (q : Fin 8192) : ∑ n ∈ Finset.range 8, dotE I (back r n c) p q = Tot I p q := by
  rw [Finset.sum_range]
  exact Function.Bijective.sum_comp ((Fintype.bijective_iff_injective_and_card _).mpr ⟨back_inj r c, rfl⟩) (fun e => dotE I e p q)

/-- The finished block. -/
theorem fin_sum (c : Dev nD) (j : S512x2048.Idx) : (gV I r 7 c j + mV I r 6 (fromD r c) j : EReal) = Tot I (rowG r c 7 j) (colG r j) := by
  rw [gV_val, mV_sum I r 6 (le_refl 6), rowG_back r c 6 (by decide), ← all_back I r c, Finset.sum_range_succ' _ 7, add_comm]
  rfl

theorem mV_full (s : EReal) (hs : ∀ c, I.s c = s) : ∀ (k : ℕ) (c : Dev nD) (j : S512x2048.Idx),
    (mV I r (k + 7) c j : EReal) = Tot I (rowG r (back r k c) 7 j) (colG r j) * s
  | 0, c, j => by
    rw [show 0 + 7 = 6 + 1 from rfl, mV, if_neg (by decide), if_pos rfl, last_msg, fin_sum, hs]; rfl
  | k + 1, c, j => by
    rw [show k + 1 + 7 = (k + 7) + 1 by omega, mV, if_neg (by omega), if_neg (by omega), mV_full s hs k]; rfl

theorem oV_full (s : EReal) (hs : ∀ c, I.s c = s) : ∀ (k : ℕ) (c : Dev nD) (j : S512x2048.Idx),
    (oV I r k c j : EReal) = Tot I (rowG r (back r k c) 7 j) (colG r j) * s
  | 0, c, j => by rw [oV, last_out, fin_sum, hs]; rfl
  | k + 1, c, j => by rw [oV, copy_out, mV_full I r s hs]; rfl

/-- Every device's result: the sum over the devices of their products, scaled. -/
theorem outC_val (s : EReal) (hs : ∀ c, I.s c = s) (c : Dev nD) (i : S4096x8192.Idx) :
    (outC c I i : EReal) = Tot I (i 0) (i 1) * s := by
  unfold outC
  rw [oV_full I _ s hs]
  have h0 : rowG (ringOf i) (back (ringOf i) (kOf c (ringOf i) (rowOf i)).val c) 7 (inBlk i) = i 0 :=
    Fin.ext (by
      show gRow _ (ringOf i) 7 + (i 0).val % 512 = (i 0).val
      rw [row_out, oRow_kOf]; show 512 * ((i 0).val / 512) + _ = _; omega)
  have h1 : colG (ringOf i) (inBlk i) = i 1 :=
    Fin.ext (by show 2048 * ((i 1).val / 2048) + (i 1).val % 2048 = (i 1).val; omega)
  rw [h0, h1]

end Cert.KernelIdeal.Body
end
-- ==== Proof.Reference.lean ====
/- The ideal reference's result as one function of its four arguments. -/
module

public import proofs.«01_k».proof.Proof.Gen.ReferenceIdeal.Value
public import Idealize.ShloMosaic.Lib.MatmulPlain
public import Idealize.ShloMosaic.Lib.Pipeline.ValueKit
public import Idealize.ShloMosaic.Lib.Pipeline.ReadBack

@[expose] public section

set_option maxRecDepth 16384

noncomputable section

namespace Cert.Reference

open Cert.ReferenceIdeal Cert.ReferenceIdeal.Gen Cert.ReferenceIdeal.Value Idealize.ShloMosaic Idealize.ShloMosaic.TcCoe Idealize.SL.Sem
open scoped BigOperators

section Run

variable {F : FTy → Type} [FloatOps F]

/-- The only element of a scale. -/
def one : S1.Idx := fun a => match a with | ⟨0, _⟩ => (0 : Fin 1)

theorem one_eq (j : S1.Idx) : j = one :=
  funext fun a => match a with | ⟨0, _⟩ => Fin.ext (by have h : (j 0).val < 1 := (j 0).isLt; show (j 0).val = 0; omega)

variable (m : (ℓ : Loc nD τ sig) → Buf (Elt F) ℓ) (ρ : Dev nD → PrngReg)

/-- The reference's result as a function of its arguments. -/
def G (c : Dev nD) : Vec F S4096x8192 .f32 :=
  k0_pay1 (m ((c : Thread nD τ).loc main_arg0)) (m ((c : Thread nD τ).loc main_arg1))
    ((m ((c : Thread nD τ).loc main_arg2) : Vec F S1 .f32) one) ((m ((c : Thread nD τ).loc main_arg3) : Vec F S1 .f32) one)

/-- The one block of each array is the array: every block index is zero. -/
theorem at_zero : ∀ t : Fin cfg0.N, ∀ a : Fin 2, win0_0.index t a = 0 ∧ win0_1.index t a = 0 ∧ win0_4.index t a = 0 :=
  (by decide +kernel : ∀ t : Fin grid0.N, _)

theorem x_eq (c : Dev nD) (t : Fin cfg0.N) : iblk m c 0 t = m ((c : Thread nD τ).loc main_arg0) := by
  funext j
  refine congrArg (m ((c : Thread nD τ).loc main_arg0)) (funext fun a => Fin.ext ?_)
  match a with
  | ⟨0, _⟩ => have := (at_zero t 0).1; show win0_0.index t (0 : Fin 2) * 4096 + 1 * (j 0).val = (j 0).val; omega
  | ⟨1, _⟩ => have := (at_zero t 1).1; show win0_0.index t (1 : Fin 2) * 4096 + 1 * (j 1).val = (j 1).val; omega

theorem w_eq (c : Dev nD) (t : Fin cfg0.N) : iblk m c 1 t = m ((c : Thread nD τ).loc main_arg1) := by
  funext j
  refine congrArg (m ((c : Thread nD τ).loc main_arg1)) (funext fun a => Fin.ext ?_)
  match a with
  | ⟨0, _⟩ => have := (at_zero t 0).2.1; show win0_1.index t (0 : Fin 2) * 4096 + 1 * (j 0).val = (j 0).val; omega
  | ⟨1, _⟩ => have := (at_zero t 1).2.1; show win0_1.index t (1 : Fin 2) * 8192 + 1 * (j 1).val = (j 1).val; omega

/-- The result array after the run. -/
theorem result (c : Dev nD) : (dats m 0 c).arrAt 4 cfg0.N = G m c := by
  refine (dats m 0 c).arrAt_eq_of_covers 4 _ (by decide +kernel) fun t hf y => ?_
  blk_simp
  rw [after0_4]
  unfold outsAt0
  frame_out
  simp only [read_unread_whole]
  rw [x_eq, w_eq]
  refine (congrFun (congrArg₂ (k0_pay1 _ _) (congrArg (m ((c : Thread nD τ).loc main_arg2) : Vec F S1 .f32) (one_eq _))
    (congrArg (m ((c : Thread nD τ).loc main_arg3) : Vec F S1 .f32) (one_eq _))) _).trans (congrArg (G m c) (funext fun a => Fin.ext ?_))
  match a with
  | ⟨0, _⟩ => have := (at_zero t 0).2.2; show (y 0).val = win0_4.index t (0 : Fin 2) * 4096 + 1 * (y 0).val; omega
  | ⟨1, _⟩ => have := (at_zero t 1).2.2; show (y 1).val = win0_4.index t (1 : Fin 2) * 8192 + 1 * (y 1).val; omega

/-- The run of the reference: its result is `G`, its arguments are unchanged. -/
theorem run : θ_run defs (onTc (τ := τ) (main (F := F))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (result m c), (h c).2⟩) (run_blocks m ρ)

end Run

theorem dot_plain : dot_S4096x4096_S4096x8192_S4096x8192_1_0_0_1_n_n = DotDims.plain 4096 4096 8192 := rfl

/-- Over the ideal floats the result is the scaled product, element by element. -/
theorem value (x : S4096x4096.Idx → EReal) (w : S4096x8192.Idx → EReal) (s t : EReal) (i : S4096x8192.Idx) :
    (k0_pay1 (F := Ideal) x w s t i : EReal) = (∑ k : Fin 4096, x (ValueIdx.ix2 (i 0) k) * w (ValueIdx.ix2 k (i 1))) * (s * t) := by
  obtain ⟨a, b, rfl⟩ : ∃ (a : Fin 4096) (b : Fin 8192), i = ValueIdx.ix2 a b := ⟨i 0, i 1, ValueIdx.eq_ix2 i⟩
  unfold k0_pay1
  simp only [matmul, dot_plain]
  refine congrArg (· * (s * t)) ((Ideal.matmul_plain_apply none x w _ a b).trans ?_)
  show Ideal.ofBits .f32 0x00000000#32 + _ = _
  rw [Ideal.ofBits_zero_f32, zero_add]

end Cert.Reference

end
-- ==== Proof.Meet.lean ====
/- The kernel and the reference compute the same array over the ideal floats. -/
module

public import proofs.«01_k».proof.Proof.KernelIdeal.Run
public import proofs.«01_k».proof.Proof.KernelIdeal.Value
public import proofs.«01_k».proof.Proof.Reference
public import Idealize.ShloMosaic.Lib.Layout

@[expose] public section

noncomputable section

namespace Cert.Meet

open Cert.KernelIdeal Cert.KernelIdeal.Gen Cert.KernelIdeal.Body Idealize.ShloMosaic Idealize.ShloMosaic.TcCoe Idealize.SL.Sem
open scoped BigOperators

/-! ## What the kernel is given, in terms of its arguments -/

section Given

variable {F : FTy → Type} [FloatOps F] (m : (ℓ : Loc nD τ sig) → Buf (Elt F) ℓ)

theorem at0 : ∀ a : Fin 2, win0_0.index t0_0 a = 0 := by decide +kernel
theorem at1 : ∀ a : Fin 2, win0_1.index t0_0 a = 0 := by decide +kernel

theorem x_eq (c : Dev nD) : (inp m).x c = m ((c : Thread nD τ).loc main_arg0) := by
  funext j
  refine congrArg (m ((c : Thread nD τ).loc main_arg0)) (funext fun a => Fin.ext ?_)
  match a with
  | ⟨0, _⟩ => have := at0 0; show win0_0.index t0_0 (0 : Fin 2) * 4096 + 1 * (j 0).val = (j 0).val; omega
  | ⟨1, _⟩ => have := at0 1; show win0_0.index t0_0 (1 : Fin 2) * 512 + 1 * (j 1).val = (j 1).val; omega

theorem w_eq (c : Dev nD) : (inp m).w c = m ((c : Thread nD τ).loc main_arg1) := by
  funext j
  refine congrArg (m ((c : Thread nD τ).loc main_arg1)) (funext fun a => Fin.ext ?_)
  match a with
  | ⟨0, _⟩ => have := at1 0; show win0_1.index t0_0 (0 : Fin 2) * 512 + 1 * (j 0).val = (j 0).val; omega
  | ⟨1, _⟩ => have := at1 1; show win0_1.index t0_0 (1 : Fin 2) * 8192 + 1 * (j 1).val = (j 1).val; omega

theorem sc2_eq (c : Dev nD) : sc2 (st2 m c) = (m ((c : Thread nD τ).loc main_arg2) : Vec F S1 .f32) Reference.one :=
  congrArg (m ((c : Thread nD τ).loc main_arg2) : Vec F S1 .f32) (Reference.one_eq _)
theorem sc3_eq (c : Dev nD) : sc3 (st3 m c) = (m ((c : Thread nD τ).loc main_arg3) : Vec F S1 .f32) Reference.one :=
  congrArg (m ((c : Thread nD τ).loc main_arg3) : Vec F S1 .f32) (Reference.one_eq _)

end Given

/-- A sum over the contracted axis is the sum over the devices of the sums over their shares. -/
theorem sum_shares (f : Fin 4096 → EReal) :
    ∑ e : Fin 8, ∑ k : Fin 512, f ⟨e.val * 512 + k.val, by have := e.isLt; have := k.isLt; omega⟩ = ∑ K : Fin 4096, f K := by
  rw [← Fintype.sum_prod_type' (f := fun (e : Fin 8) (k : Fin 512) => f ⟨e.val * 512 + k.val, by have := e.isLt; have := k.isLt; omega⟩)]
  exact Fintype.sum_equiv (finProdFinEquiv : Fin 8 × Fin 512 ≃ Fin (8 * 512)) _ f fun p =>
    congrArg f (Fin.ext (by show p.1.val * 512 + p.2.val = p.2.val + 512 * p.1.val; omega))

/-- The kernel's result on every device is the reference's. -/
theorem same (m : (ℓ : Loc nD τ sig) → Buf (Elt Ideal) ℓ) (x : (⟨2, ![4096, 4096]⟩ : Shape).Idx → EReal) (w : S4096x8192.Idx → EReal) (s t : S1.Idx → EReal)
    (h0 : ∀ c : Dev nD, m ((c : Thread nD τ).loc main_arg0) = Layout.block ⟨2, ![4096, 512]⟩ ⟨2, ![4096, 4096]⟩ 1 8 c x)
    (h1 : ∀ c : Dev nD, m ((c : Thread nD τ).loc main_arg1) = Layout.block ⟨2, ![512, 8192]⟩ ⟨2, ![4096, 8192]⟩ 0 8 c w)
    (h2 : ∀ c : Dev nD, m ((c : Thread nD τ).loc main_arg2) = s) (h3 : ∀ c : Dev nD, m ((c : Thread nD τ).loc main_arg3) = t)
    (c : Dev nD) (i : S4096x8192.Idx) :
    (outC c (inp m) i : EReal) = Cert.ReferenceIdeal.Gen.k0_pay1 (F := Ideal) x w (s Reference.one) (t Reference.one) i := by
  have hs : ∀ c, (inp m).s c = (s Reference.one * t Reference.one : EReal) := fun c => by
    show Scalar.mulf (sc2 (st2 m c)) (sc3 (st3 m c)) = _
    rw [sc2_eq, sc3_eq, h2, h3]; rfl
  rw [outC_val (inp m) _ hs c i, Reference.value, ← sum_shares]
  refine congrArg (· * _) (Finset.sum_congr rfl fun e _ => Finset.sum_congr rfl fun k _ => ?_)
  refine congrArg₂ (· * ·) ?_ ?_
  · show (inp m).x e _ = _
    rw [x_eq, h0]
    refine congrArg x (funext fun a => Fin.ext ?_)
    match a with
    | ⟨0, _⟩ => rfl
    | ⟨1, _⟩ => rfl
  · show (inp m).w e _ = _
    rw [w_eq, h1]
    refine congrArg w (funext fun a => Fin.ext ?_)
    match a with
    | ⟨0, _⟩ => rfl
    | ⟨1, _⟩ => rfl

end Cert.Meet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Run
public import proofs.«01_k».proof.Proof.KernelIdeal.Run
public import proofs.«01_k».proof.Proof.Meet
public import Idealize.ShloMosaic.Adequacy
public import Idealize.ShloMosaic.Init

@[expose] public section

noncomputable section

namespace Cert.Proof

open Idealize.ShloMosaic Idealize.SL.Sem Cert.Kernel

/-- The kernel runs from any memory, keeps its arguments and leaves every semaphore at zero. -/
theorem frame_kernel : Cert.quiescent_Kernel (hKernel := Cert.Kernel.Gen.facts) := fun m g _ =>
  (θ_run (Cert.Kernel.defs (F := Bits)) _ _).mono (fun _ h => ⟨fun c => ⟨(h.1 c).1, (h.1 c).2.1, (h.1 c).2.2.1, (h.1 c).2.2.2.1⟩, h.2⟩) (Cert.Kernel.Body.run_main m g)

/-- So does the kernel read over the ideal floats. -/
theorem frame_ideal : Cert.quiescent_KernelIdeal (hKernelIdeal := Cert.KernelIdeal.Gen.facts) := fun m g _ =>
  (θ_run (Cert.KernelIdeal.defs (F := Ideal)) _ _).mono (fun _ h => ⟨fun c => ⟨(h.1 c).1, (h.1 c).2.1, (h.1 c).2.2.1, (h.1 c).2.2.2.1⟩, h.2⟩) (Cert.KernelIdeal.Body.run_main m g)

/-- So does the reference. -/
theorem frame_reference : Cert.quiescent_ReferenceIdeal (hReferenceIdeal := Cert.ReferenceIdeal.Gen.facts) := fun m g _ =>
  Cert.ReferenceIdeal.Gen.frame m g

/-- Over the ideal floats every device ends with the reference's result. -/
theorem algebra : Cert.algebraic_KernelIdeal_ReferenceIdeal (hKernelIdeal := Cert.KernelIdeal.Gen.facts) (hReferenceIdeal := Cert.ReferenceIdeal.Gen.facts) :=
  fun m g m' g' _ h => ⟨Cert.Reference.G m' 0,
    (θ_run (Cert.KernelIdeal.defs (F := Ideal)) _ _).mono (fun _ k c => ⟨(k.1 c).2.2.2.2.trans (funext fun i =>
        Cert.Meet.same m _ _ _ _ (fun c => (h c).1) (fun c => (h c).2.1) (fun c => (h c).2.2.1) (fun c => (h c).2.2.2) c i),
      (k.1 c).1, (k.1 c).2.1, (k.1 c).2.2.1, (k.1 c).2.2.2.1⟩) (Cert.KernelIdeal.Body.run_main m g),
    (θ_run (Cert.ReferenceIdeal.defs (F := Ideal)) _ _).mono (fun _ k => k 0) (Cert.Reference.run m' g')⟩

theorem claim : Cert.Claim := ⟨Cert.Kernel.Gen.facts, Cert.KernelIdeal.Gen.facts, Cert.ReferenceIdeal.Gen.facts, frame_kernel, frame_ideal, frame_reference, trivial, algebra⟩

end Cert.Proof

end
